-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x1024 : Shape := ⟨2, ![4096, 1024]⟩
abbrev S4096x26 : Shape := ⟨2, ![4096, 26]⟩
abbrev S26x1000x128 : Shape := ⟨3, ![26, 1000, 128]⟩
abbrev S3328x1024 : Shape := ⟨2, ![3328, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S1280x1 : Shape := ⟨2, ![1280, 1]⟩
abbrev S1 : Shape := ⟨1, ![1]⟩
abbrev S_ : Shape := ⟨0, ![]⟩

class Facts : Prop where
  bcast_S_S4096x26 : S_.BroadcastsInDim S4096x26 (![] : Fin 0 → Fin S4096x26.rank)

variable [Facts]

def fn {F : FTy → Type} [FloatOps F] (main_arg0 : FVec F S4096x1024 .f32) (main_arg1 : IVec S4096x26 32) (main_arg2 : FVec F S26x1000x128 .f32) (main_arg3 : FVec F S3328x1024 .f32) (main_arg4 : FVec F S1024 .f32) (main_arg5 : FVec F S1024x512 .f32) (main_arg6 : FVec F S512 .f32) (main_arg7 : FVec F S512x256 .f32) (main_arg8 : FVec F S256 .f32) (main_arg9 : FVec F S1280x1 .f32) (main_arg10 : FVec F S1 .f32) : IVec S4096x26 1 :=
  let main_c : IVec S_ 32 := constantI S_ 32 0#32
  let main_v0 : IVec S4096x26 32 := broadcastInDim S4096x26 ![] bcast_S_S4096x26 main_c
  let main_v1 : IVec S4096x26 1 := cmpi .sge main_arg1 main_v0
  let main_c_0 : IVec S_ 32 := constantI S_ 32 1000#32
  let main_v2 : IVec S4096x26 32 := broadcastInDim S4096x26 ![] bcast_S_S4096x26 main_c_0
  let main_v3 : IVec S4096x26 1 := cmpi .slt main_arg1 main_v2
  let main_v4 : IVec S4096x26 1 := andi main_v1 main_v3
  main_v4
-- ==== Kernel.lean ====
abbrev S4096x1024 : Shape := ⟨2, ![4096, 1024]⟩
abbrev S4096x26 : Shape := ⟨2, ![4096, 26]⟩
abbrev S26x1000x128 : Shape := ⟨3, ![26, 1000, 128]⟩
abbrev S3328x1024 : Shape := ⟨2, ![3328, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S1280x1 : Shape := ⟨2, ![1280, 1]⟩
abbrev S1 : Shape := ⟨1, ![1]⟩
abbrev S26000x128 : Shape := ⟨2, ![26000, 128]⟩
abbrev S26 : Shape := ⟨1, ![26]⟩
abbrev S_ : Shape := ⟨0, ![]⟩
abbrev S1x26 : Shape := ⟨2, ![1, 26]⟩
abbrev S32x26x128 : Shape := ⟨3, ![32, 26, 128]⟩
abbrev S832x128x128 : Shape := ⟨3, ![832, 128, 128]⟩
abbrev S26x128 : Shape := ⟨2, ![26, 128]⟩
abbrev S128x128 : Shape := ⟨2, ![128, 128]⟩
abbrev S1x26x128 : Shape := ⟨3, ![1, 26, 128]⟩
abbrev S1x128 : Shape := ⟨2, ![1, 128]⟩
abbrev S128 : Shape := ⟨1, ![128]⟩
abbrev S1x128x128 : Shape := ⟨3, ![1, 128, 128]⟩
abbrev S4096x3328 : Shape := ⟨2, ![4096, 3328]⟩
abbrev S1x1024 : Shape := ⟨2, ![1, 1024]⟩
abbrev S1x512 : Shape := ⟨2, ![1, 512]⟩
abbrev S1x256 : Shape := ⟨2, ![1, 256]⟩
abbrev S1024x1 : Shape := ⟨2, ![1024, 1]⟩
abbrev S256x1 : Shape := ⟨2, ![256, 1]⟩
abbrev S1x1 : Shape := ⟨2, ![1, 1]⟩
abbrev S4096x1 : Shape := ⟨2, ![4096, 1]⟩
abbrev S512x1024 : Shape := ⟨2, ![512, 1024]⟩
abbrev S512x3328 : Shape := ⟨2, ![512, 3328]⟩
abbrev S512x1 : Shape := ⟨2, ![512, 1]⟩
abbrev S512x512 : Shape := ⟨2, ![512, 512]⟩

abbrev nBuf : Table → Nat
  | .hbm => 32
  | .local .tc .vmem => 15
  | .local .scVector .vmem => 2
  | _ => 0

abbrev bufTy : (tb : Table) → Fin (nBuf tb) → BufTy
  | .hbm, ⟨0, _⟩ => ⟨S4096x1024, .f32⟩
  | .hbm, ⟨1, _⟩ => ⟨S4096x26, .i32⟩
  | .hbm, ⟨2, _⟩ => ⟨S26x1000x128, .f32⟩
  | .hbm, ⟨3, _⟩ => ⟨S3328x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1280x1, .f32⟩
  | .hbm, ⟨10, _⟩ => ⟨S1, .f32⟩
  | .hbm, ⟨11, _⟩ => ⟨S26000x128, .f32⟩
  | .hbm, ⟨12, _⟩ => ⟨S26, .i32⟩
  | .hbm, ⟨13, _⟩ => ⟨S_, .i32⟩
  | .hbm, ⟨14, _⟩ => ⟨S26, .i32⟩
  | .hbm, ⟨15, _⟩ => ⟨S26, .i32⟩
  | .hbm, ⟨16, _⟩ => ⟨S1x26, .i32⟩
  | .hbm, ⟨17, _⟩ => ⟨S4096x26, .i32⟩
  | .hbm, ⟨18, _⟩ => ⟨S4096x26, .i32⟩
  | .hbm, ⟨19, _⟩ => ⟨S32x26x128, .i32⟩
  | .hbm, ⟨20, _⟩ => ⟨S832x128x128, .f32⟩
  | .hbm, ⟨21, _⟩ => ⟨S4096x3328, .f32⟩
  | .hbm, ⟨22, _⟩ => ⟨S3328x1024, .bf16⟩
  | .hbm, ⟨23, _⟩ => ⟨S1x1024, .f32⟩
  | .hbm, ⟨24, _⟩ => ⟨S1024x512, .bf16⟩
  | .hbm, ⟨25, _⟩ => ⟨S1x512, .f32⟩
  | .hbm, ⟨26, _⟩ => ⟨S512x256, .bf16⟩
  | .hbm, ⟨27, _⟩ => ⟨S1x256, .f32⟩
  | .hbm, ⟨28, _⟩ => ⟨S1024x1, .f32⟩
  | .hbm, ⟨29, _⟩ => ⟨S256x1, .f32⟩
  | .hbm, ⟨30, _⟩ => ⟨S1x1, .f32⟩
  | .hbm, ⟨31, _⟩ => ⟨S4096x1, .f32⟩
  | .local .tc .vmem, ⟨0, _⟩ => ⟨S512x1024, .f32⟩
  | .local .tc .vmem, ⟨1, _⟩ => ⟨S512x1024, .f32⟩
  | .local .tc .vmem, ⟨2, _⟩ => ⟨S512x3328, .f32⟩
  | .local .tc .vmem, ⟨3, _⟩ => ⟨S512x3328, .f32⟩
  | .local .tc .vmem, ⟨4, _⟩ => ⟨S3328x1024, .bf16⟩
  | .local .tc .vmem, ⟨5, _⟩ => ⟨S1x1024, .f32⟩
  | .local .tc .vmem, ⟨6, _⟩ => ⟨S1024x512, .bf16⟩
  | .local .tc .vmem, ⟨7, _⟩ => ⟨S1x512, .f32⟩
  | .local .tc .vmem, ⟨8, _⟩ => ⟨S512x256, .bf16⟩
  | .local .tc .vmem, ⟨9, _⟩ => ⟨S1x256, .f32⟩
  | .local .tc .vmem, ⟨10, _⟩ => ⟨S1024x1, .f32⟩
  | .local .tc .vmem, ⟨11, _⟩ => ⟨S256x1, .f32⟩
  | .local .tc .vmem, ⟨12, _⟩ => ⟨S1x1, .f32⟩
  | .local .tc .vmem, ⟨13, _⟩ => ⟨S512x1, .f32⟩
  | .local .tc .vmem, ⟨14, _⟩ => ⟨S512x1, .f32⟩
  | .local .scVector .vmem, ⟨0, _⟩ => ⟨S26x128, .i32⟩
  | .local .scVector .vmem, ⟨1, _⟩ => ⟨S128x128, .f32⟩
  | _, _ => ⟨S4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v0_scv : Ref sig .scVector := ⟨.hbm, 11, rfl⟩
abbrev main_v7_scv : Ref sig .scVector := ⟨.hbm, 19, rfl⟩
abbrev main_v8_scv : Ref sig .scVector := ⟨.hbm, 20, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg11_1 : Ref sig .tc := ⟨.vmem, 14, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem11_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k0_t1_loop : Scf.Loop 32 :=
  let c0_i32_0 : BitVec 32 := 0#32
  let c26_i32 : BitVec 32 := 26#32
  let v2 : BitVec 32 := Scalar.addi c0_i32_0 c26_i32
  let c1_i32 : BitVec 32 := 1#32
  ⟨c0_i32_0, v2, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c0_i32_2 : BitVec 32 := 0#32
  ![arg8.toNat, 0]
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_8 : BitVec 32 := 26#32
  let v9 : BitVec 32 := Scalar.muli v1 c26_i32_8
  let c0_i32_0 : BitVec 32 := 0#32
  let c1_i32 : BitVec 32 := 1#32
  let arg8 : BitVec 32 := Scf.iv c0_i32_0 c1_i32 k0_t1
  let v10 : BitVec 32 := Scalar.addi v9 arg8
  let c0_i32_9_r1 : BitVec 32 := 0#32
  let c0_i32_10_r1 : BitVec 32 := 0#32
  ![v10.toNat, 0, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x3328 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3328x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x1024 : Shape := ⟨2, ![4096, 1024]⟩
abbrev S4096x26 : Shape := ⟨2, ![4096, 26]⟩
abbrev S26x1000x128 : Shape := ⟨3, ![26, 1000, 128]⟩
abbrev S3328x1024 : Shape := ⟨2, ![3328, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S1280x1 : Shape := ⟨2, ![1280, 1]⟩
abbrev S1 : Shape := ⟨1, ![1]⟩
abbrev S26 : Shape := ⟨1, ![26]⟩
abbrev S1x26 : Shape := ⟨2, ![1, 26]⟩
abbrev S_ : Shape := ⟨0, ![]⟩
abbrev S4096x26x1 : Shape := ⟨3, ![4096, 26, 1]⟩
abbrev S4096x26x2 : Shape := ⟨3, ![4096, 26, 2]⟩
abbrev S4096x26x128 : Shape := ⟨3, ![4096, 26, 128]⟩
abbrev S4096x3328 : Shape := ⟨2, ![4096, 3328]⟩
abbrev S1x1024 : Shape := ⟨2, ![1, 1024]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x1280 : Shape := ⟨2, ![4096, 1280]⟩
abbrev S4096x1 : Shape := ⟨2, ![4096, 1]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x26, .i32⟩
  | .hbm, ⟨2, _⟩ => ⟨S26x1000x128, .f32⟩
  | .hbm, ⟨3, _⟩ => ⟨S3328x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1280x1, .f32⟩
  | .hbm, ⟨10, _⟩ => ⟨S1, .f32⟩
  | .hbm, ⟨11, _⟩ => ⟨S26, .i32⟩
  | .hbm, ⟨12, _⟩ => ⟨S1x26, .i32⟩
  | .hbm, ⟨13, _⟩ => ⟨S_, .i32⟩
  | .hbm, ⟨14, _⟩ => ⟨S1x26, .i32⟩
  | .hbm, ⟨15, _⟩ => ⟨S1x26, .i1⟩
  | .hbm, ⟨16, _⟩ => ⟨S_, .i32⟩
  | .hbm, ⟨17, _⟩ => ⟨S1x26, .i32⟩
  | .hbm, ⟨18, _⟩ => ⟨S1x26, .i32⟩
  | .hbm, ⟨19, _⟩ => ⟨S1x26, .i32⟩
  | .hbm, ⟨20, _⟩ => ⟨S_, .i32⟩
  | .hbm, ⟨21, _⟩ => ⟨S4096x26, .i32⟩
  | .hbm, ⟨22, _⟩ => ⟨S4096x26, .i1⟩
  | .hbm, ⟨23, _⟩ => ⟨S_, .i32⟩
  | .hbm, ⟨24, _⟩ => ⟨S4096x26, .i32⟩
  | .hbm, ⟨25, _⟩ => ⟨S4096x26, .i32⟩
  | .hbm, ⟨26, _⟩ => ⟨S4096x26, .i32⟩
  | .hbm, ⟨27, _⟩ => ⟨S4096x26, .i32⟩
  | .hbm, ⟨28, _⟩ => ⟨S4096x26x1, .i32⟩
  | .hbm, ⟨29, _⟩ => ⟨S4096x26x1, .i32⟩
  | .hbm, ⟨30, _⟩ => ⟨S4096x26x2, .i32⟩
  | .hbm, ⟨31, _⟩ => ⟨S4096x26x128, .f32⟩
  | .hbm, ⟨32, _⟩ => ⟨S4096x3328, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x512, .f32⟩
  | .hbm, ⟨41, _⟩ => ⟨S1x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S4096x256, .f32⟩
  | .hbm, ⟨48, _⟩ => ⟨S1x256, .f32⟩
  | .hbm, ⟨49, _⟩ => ⟨S4096x256, .f32⟩
  | .hbm, ⟨50, _⟩ => ⟨S4096x256, .f32⟩
  | .hbm, ⟨51, _⟩ => ⟨S_, .f32⟩
  | .hbm, ⟨52, _⟩ => ⟨S4096x256, .f32⟩
  | .hbm, ⟨53, _⟩ => ⟨S4096x256, .f32⟩
  | .hbm, ⟨54, _⟩ => ⟨S4096x1280, .f32⟩
  | .hbm, ⟨55, _⟩ => ⟨S4096x1, .f32⟩
  | .hbm, ⟨56, _⟩ => ⟨S1x1, .f32⟩
  | .hbm, ⟨57, _⟩ => ⟨S4096x1, .f32⟩
  | .hbm, ⟨58, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_cst : Ref sig .tc := ⟨.hbm, 51, rfl⟩
abbrev main_call2_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.KernelIdeal.Base.lean ====
/- The program's parts as the launch of its SparseCore call sees them, the ghost state the proof carries, and the
   arrays' locations. -/
module

public import proofs.«01_k».proof.Proof.Gen.KernelIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Pf

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-- The labels of the TensorCore's program: the kernels' and the one pipeline's. -/
abbrev ΛP : Labels := Pipeline.Sig Λ₀ (Fin 1) fun p => (pcfgs (F := F) p).Adm
/-- The SparseCore call of @main. -/
abbrev K : SparseCore.Cfg τ sig (ΛP (F := F)) 1 := sc (F := F)
/-- The body table under the call: the kernels' and the pipeline's. -/
abbrev D [FloatOps F] : Defs nD τ sig (Elt F) (ΛP (F := F)) := Pipeline.defs pcfgs defs₀
abbrev 𝒱₀ : Variants := Variants.none
/-- The termination measures of the body table `D`: the pipeline's trips. -/
abbrev 𝒱 : Variants := 𝒱₀.lift
abbrev v₀ : 𝒱.V := Sum.inl none

theorem nCore_zero : (K (F := F)).nCore 0 = 2 := rfl
theorem nSub_zero : (K (F := F)).nSub 0 = 16 := rfl

/-- The four launch semaphores are distinct where they must be and none is scoped; the tasks share no buffer. -/
theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The handshakes' rounds, the pipeline's rounds and the transfers' counters, side by side. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-- The table, the row numbers and the gathered rows in the device's memory. -/
abbrev tLoc (d : Dev nD) : Loc nD τ sig := (d.tc : Thread nD τ).loc main_v0
abbrev iLoc (d : Dev nD) : Loc nD τ sig := (d.tc : Thread nD τ).loc main_v7
abbrev oLoc (d : Dev nD) : Loc nD τ sig := (d.tc : Thread nD τ).loc main_v8

end Cert.KernelIdeal.Pf

end
-- ==== Proof.KernelIdeal.Mlp.lean ====
/- The TensorCore's pipelined call: what one grid point's body does to the staging buffers, the proof data of the
   pipeline over the contents `V` the call finds, the call as one segment of @main, and the result array block by
   block. -/
module

public import proofs.«01_k».proof.Proof.KernelIdeal.Base
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameTail
public import Idealize.ShloMosaic.Lib.Pipeline.Value

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F)) (Rc : Set (SemLoc sig × HIx 1))

/-! ## The blocks the body finds -/

/-- Window `w`'s block at grid point `t`, read off the array's contents `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-! ## The body's accesses: each a whole staging buffer -/

abbrev q0 : Rect S512x1024 := Rect.unit (s := S512x1024) ![0, 0] S512x1024.size inb_S512x1024_S512x1024_0_0
abbrev q1 : Rect S512x3328 := Rect.unit (s := S512x3328) ![0, 0] S512x3328.size inb_S512x3328_S512x3328_0_0
abbrev q2 : Rect S3328x1024 := Rect.unit (s := S3328x1024) ![0, 0] S3328x1024.size inb_S3328x1024_S3328x1024_0_0
abbrev q3 : Rect S1x1024 := Rect.unit (s := S1x1024) ![0, 0] S1x1024.size inb_S1x1024_S1x1024_0_0
abbrev q4 : Rect S1024x512 := Rect.unit (s := S1024x512) ![0, 0] S1024x512.size inb_S1024x512_S1024x512_0_0
abbrev q5 : Rect S1x512 := Rect.unit (s := S1x512) ![0, 0] S1x512.size inb_S1x512_S1x512_0_0
abbrev q6 : Rect S512x256 := Rect.unit (s := S512x256) ![0, 0] S512x256.size inb_S512x256_S512x256_0_0
abbrev q7 : Rect S1x256 := Rect.unit (s := S1x256) ![0, 0] S1x256.size inb_S1x256_S1x256_0_0
abbrev q8 : Rect S1024x1 := Rect.unit (s := S1024x1) ![0, 0] S1024x1.size inb_S1024x1_S1024x1_0_0
abbrev q9 : Rect S256x1 := Rect.unit (s := S256x1) ![0, 0] S256x1.size inb_S256x1_S256x1_0_0
abbrev q10 : Rect S1x1 := Rect.unit (s := S1x1) ![0, 0] S1x1.size inb_S1x1_S1x1_0_0
abbrev q11 : Rect S512x1 := Rect.unit (s := S512x1) ![0, 0] S512x1.size inb_S512x1_S512x1_0_0

/-- The value the body stores: the last layer over the deep layers of the blocks. -/
def outPay (x0 : Vec F S512x1024 .f32) (x1 : Vec F S512x3328 .f32) (x2 : Vec F S3328x1024 .bf16) (x3 : Vec F S1x1024 .f32) (x4 : Vec F S1024x512 .bf16) (x5 : Vec F S1x512 .f32) (x6 : Vec F S512x256 .bf16) (x7 : Vec F S1x256 .f32) (x8 : Vec F S1024x1 .f32) (x9 : Vec F S256x1 .f32) (x10 : Vec F S1x1 .f32) : FVec F S512x1 .f32 :=
  k1_pay1 (k1_pay2 (View.ld x1 q1) (View.ld x2 q2) (View.ld x3 q3) (View.ld x4 q4) (View.ld x5 q5) (View.ld x6 q6) (View.ld x7 q7)) (View.ld x0 q0) (k1_pay3 (View.ld x8 q8)) (View.ld x9 q9) (View.ld x10 q10)

/-- The result window's staging buffer after the body: its one store, over the whole buffer. -/
def outBlk (x0 : Vec F S512x1024 .f32) (x1 : Vec F S512x3328 .f32) (x2 : Vec F S3328x1024 .bf16) (x3 : Vec F S1x1024 .f32) (x4 : Vec F S1024x512 .bf16) (x5 : Vec F S1x512 .f32) (x6 : Vec F S512x256 .bf16) (x7 : Vec F S1x256 .f32) (x8 : Vec F S1024x1 .f32) (x9 : Vec F S256x1 .f32) (x10 : Vec F S1x1 .f32) : Vec F S512x1 .f32 :=
  View.canon [⟨q11, outPay x0 x1 x2 x3 x4 x5 x6 x7 x8 x9 x10⟩]

theorem outBlk_cover (p0 : Vec F S512x1 .f32) (y : S512x1.Idx) :
    ∃ pc ∈ ([⟨q11, p0⟩] : List (View.Piece (Elt F) S512x1 .f32)), y ∈ pc.1.set :=
  View.cover_of_tiled [⟨q11, p0⟩] S512x1.size (by rfl) y

set_option maxHeartbeats 1000000 in
/-- The body on whole staging buffers, the inputs at `x0 … x10` and the result's at anything, leaves the inputs as they
    were and the result's at `outBlk` of them. -/
theorem mlp_body (c : Dev nD) (E : Set ℕ) (i : grid1.Coords) (arg1 : Memref sig .tc .vmem S512x1024 .f32) (harg1 : arg1.IsWhole) (arg2 : Memref sig .tc .vmem S512x3328 .f32) (harg2 : arg2.IsWhole) (arg3 : Memref sig .tc .vmem S3328x1024 .bf16) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1024x1 .f32) (harg9 : arg9.IsWhole) (arg10 : Memref sig .tc .vmem S256x1 .f32) (harg10 : arg10.IsWhole) (arg11 : Memref sig .tc .vmem S1x1 .f32) (harg11 : arg11.IsWhole) (arg12 : Memref sig .tc .vmem S512x1 .f32) (harg12 : arg12.IsWhole)
    (x0 : Vec F S512x1024 .f32) (x1 : Vec F S512x3328 .f32) (x2 : Vec F S3328x1024 .bf16) (x3 : Vec F S1x1024 .f32) (x4 : Vec F S1024x512 .bf16) (x5 : Vec F S1x512 .f32) (x6 : Vec F S512x256 .bf16) (x7 : Vec F S1x256 .f32) (x8 : Vec F S1024x1 .f32) (x9 : Vec F S256x1 .f32) (x10 : Vec F S1x1 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlk x0 x1 x2 x3 x4 x5 x6 x7 x8 x9 x10)) -∗ Q ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10 arg11 harg11 arg12 harg12) Q := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (outBlk_cover _)

/-! ## The pipeline's proof data -/

/-- What the body holds besides its windows: no buffer of its own, and the generator register at some state. -/
def mlpInv (c : Dev nD) : sProp 𝕄 :=
  iprop(Pipeline.scopedRest (Ix := HIx 1) (Name := ℕ) (U := UU) (Lvl := ℕ) spec1 c ∗ (∃ r, prngReg c r))

/-- The pipeline on device `c`, from the contents `V` and with the pairs recorded before it within `Rc`: after the body
    each input's buffer holds its block and the result's `outBlk` of the blocks; nothing is owed. -/
def dats (_ : Fin 1) (c : Dev nD) : Dat τ (Elt F) (HIx 1) ℕ UU ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => outBlk (iblk V c 0 t) (iblk V c 1 t) (iblk V c 2 t) (iblk V c 3 t) (iblk V c 4 t) (iblk V c 5 t) (iblk V c 6 t) (iblk V c 7 t) (iblk V c 8 t) (iblk V c 9 t) (iblk V c 10 t)
  Φ _ := mlpInv c
  q _ := fullShare
  owed _ := 0
  recorded _ := Rc

theorem A_eq (c : Dev nD) (w : Fin cfg1.W) : (dats V Rc 0 c).A w = V c (Proc.devRef .tc (Pipeline.arrRef spec1 w)) := by
  dsimp only [dats]

theorem after_0 (c : Dev nD) (t : Fin cfg1.N) : (dats V Rc 0 c).after 0 t = iblk V c 0 t := by dsimp only [dats]
theorem after_1 (c : Dev nD) (t : Fin cfg1.N) : (dats V Rc 0 c).after 1 t = iblk V c 1 t := by dsimp only [dats]
theorem after_2 (c : Dev nD) (t : Fin cfg1.N) : (dats V Rc 0 c).after 2 t = iblk V c 2 t := by dsimp only [dats]
theorem after_3 (c : Dev nD) (t : Fin cfg1.N) : (dats V Rc 0 c).after 3 t = iblk V c 3 t := by dsimp only [dats]
theorem after_4 (c : Dev nD) (t : Fin cfg1.N) : (dats V Rc 0 c).after 4 t = iblk V c 4 t := by dsimp only [dats]
theorem after_5 (c : Dev nD) (t : Fin cfg1.N) : (dats V Rc 0 c).after 5 t = iblk V c 5 t := by dsimp only [dats]
theorem after_6 (c : Dev nD) (t : Fin cfg1.N) : (dats V Rc 0 c).after 6 t = iblk V c 6 t := by dsimp only [dats]
theorem after_7 (c : Dev nD) (t : Fin cfg1.N) : (dats V Rc 0 c).after 7 t = iblk V c 7 t := by dsimp only [dats]
theorem after_8 (c : Dev nD) (t : Fin cfg1.N) : (dats V Rc 0 c).after 8 t = iblk V c 8 t := by dsimp only [dats]
theorem after_9 (c : Dev nD) (t : Fin cfg1.N) : (dats V Rc 0 c).after 9 t = iblk V c 9 t := by dsimp only [dats]
theorem after_10 (c : Dev nD) (t : Fin cfg1.N) : (dats V Rc 0 c).after 10 t = iblk V c 10 t := by dsimp only [dats]
theorem after_11 (c : Dev nD) (t : Fin cfg1.N) : (dats V Rc 0 c).after 11 t = outBlk (iblk V c 0 t) (iblk V c 1 t) (iblk V c 2 t) (iblk V c 3 t) (iblk V c 4 t) (iblk V c 5 t) (iblk V c 6 t) (iblk V c 7 t) (iblk V c 8 t) (iblk V c 9 t) (iblk V c 10 t) := by dsimp only [dats]

/-! Each input's buffer holds its block when the body runs, fetched at that point or earlier. -/

theorem before_0 (c : Dev nD) (t : Fin cfg1.N) (d) : (dats V Rc 0 c).before 0 t d = iblk V c 0 t :=
  ((dats V Rc 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats V Rc 0 c).before 1 t d = iblk V c 1 t :=
  ((dats V Rc 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats V Rc 0 c).before 2 t d = iblk V c 2 t :=
  ((dats V Rc 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dats V Rc 0 c).before 3 t d = iblk V c 3 t :=
  ((dats V Rc 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dats V Rc 0 c).before 4 t d = iblk V c 4 t :=
  ((dats V Rc 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dats V Rc 0 c).before 5 t d = iblk V c 5 t :=
  ((dats V Rc 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dats V Rc 0 c).before 6 t d = iblk V c 6 t :=
  ((dats V Rc 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dats V Rc 0 c).before 7 t d = iblk V c 7 t :=
  ((dats V Rc 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dats V Rc 0 c).before 8 t d = iblk V c 8 t :=
  ((dats V Rc 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dats V Rc 0 c).before 9 t d = iblk V c 9 t :=
  ((dats V Rc 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg1.N) (d) : (dats V Rc 0 c).before 10 t d = iblk V c 10 t :=
  ((dats V Rc 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)

/-! ## The body at a grid point -/

/-- What the body is called with at point `t`, the windows one by one, -/
def bodyPre (c : Dev nD) (t : Fin cfg1.N) : sProp 𝕄 :=
  iprop((dats V Rc 0 c).Φ t.castSucc ∗ (dats V Rc 0 c).owesAt none t.castSucc
    ∗ (∃ d, owns (c : Thread nD τ) (st1_0 t) fullShare ((dats V Rc 0 c).before 0 t d))
    ∗ (∃ d, owns (c : Thread nD τ) (st1_1 t) fullShare ((dats V Rc 0 c).before 1 t d))
    ∗ (∃ d, owns (c : Thread nD τ) (st1_2 t) fullShare ((dats V Rc 0 c).before 2 t d))
    ∗ (∃ d, owns (c : Thread nD τ) (st1_3 t) fullShare ((dats V Rc 0 c).before 3 t d))
    ∗ (∃ d, owns (c : Thread nD τ) (st1_4 t) fullShare ((dats V Rc 0 c).before 4 t d))
    ∗ (∃ d, owns (c : Thread nD τ) (st1_5 t) fullShare ((dats V Rc 0 c).before 5 t d))
    ∗ (∃ d, owns (c : Thread nD τ) (st1_6 t) fullShare ((dats V Rc 0 c).before 6 t d))
    ∗ (∃ d, owns (c : Thread nD τ) (st1_7 t) fullShare ((dats V Rc 0 c).before 7 t d))
    ∗ (∃ d, owns (c : Thread nD τ) (st1_8 t) fullShare ((dats V Rc 0 c).before 8 t d))
    ∗ (∃ d, owns (c : Thread nD τ) (st1_9 t) fullShare ((dats V Rc 0 c).before 9 t d))
    ∗ (∃ d, owns (c : Thread nD τ) (st1_10 t) fullShare ((dats V Rc 0 c).before 10 t d))
    ∗ (∃ d, owns (c : Thread nD τ) (st1_11 t) fullShare ((dats V Rc 0 c).before 11 t d)))

/-- and what it returns. -/
def bodyPost (c : Dev nD) (t : Fin cfg1.N) : sProp 𝕄 :=
  iprop((dats V Rc 0 c).Φ t.succ ∗ (dats V Rc 0 c).owesAt none t.succ
    ∗ owns (c : Thread nD τ) (st1_0 t) fullShare ((dats V Rc 0 c).after 0 t)
    ∗ owns (c : Thread nD τ) (st1_1 t) fullShare ((dats V Rc 0 c).after 1 t)
    ∗ owns (c : Thread nD τ) (st1_2 t) fullShare ((dats V Rc 0 c).after 2 t)
    ∗ owns (c : Thread nD τ) (st1_3 t) fullShare ((dats V Rc 0 c).after 3 t)
    ∗ owns (c : Thread nD τ) (st1_4 t) fullShare ((dats V Rc 0 c).after 4 t)
    ∗ owns (c : Thread nD τ) (st1_5 t) fullShare ((dats V Rc 0 c).after 5 t)
    ∗ owns (c : Thread nD τ) (st1_6 t) fullShare ((dats V Rc 0 c).after 6 t)
    ∗ owns (c : Thread nD τ) (st1_7 t) fullShare ((dats V Rc 0 c).after 7 t)
    ∗ owns (c : Thread nD τ) (st1_8 t) fullShare ((dats V Rc 0 c).after 8 t)
    ∗ owns (c : Thread nD τ) (st1_9 t) fullShare ((dats V Rc 0 c).after 9 t)
    ∗ owns (c : Thread nD τ) (st1_10 t) fullShare ((dats V Rc 0 c).after 10 t)
    ∗ owns (c : Thread nD τ) (st1_11 t) fullShare ((dats V Rc 0 c).after 11 t))

/-- The body at any point, from `mlp_body`: the invariant and what is owed pass through. -/
theorem body_point (c : Dev nD) (t : Fin cfg1.N) :
    bodyPre V Rc c t ⊢ wp frame (wpE (defs₀ (F := F)) Variants.none c none) Set.univ (bodyAt1 t) (fun _ => bodyPost V Rc c t) := by
  unfold bodyPre bodyPost bodyAt1
  simp only [before_0, before_1, before_2, before_3, before_4, before_5, before_6, before_7, before_8, before_9, before_10]
  rw [show (dats V Rc 0 c).Φ t.succ = (dats V Rc 0 c).Φ t.castSucc from rfl,
    show (dats V Rc 0 c).owesAt none t.succ = (dats V Rc 0 c).owesAt none t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (mlp_body c Set.univ (grid1.coords t) _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t` is the body on that point's staging buffers. -/
theorem defs₀_row (t : Fin cfg1.N) :
    defs₀ (F := F) .tc cfg1.body (cfg1.bodyArgs t (cfg1.slots t)) = bodyAt1 t := rfl

theorem body_obligation (c : Dev nD) : BodyObligation (dats (F := F) V Rc 0 c) (defs₀ (F := F)) Variants.none none Set.univ := fun t => by
  rw [bigSep_W1, bigSep_W1, defs₀_row]
  exact triple_restated (body_point V Rc c t) rfl .rfl fun _ => .rfl

theorem owed_zero (c : Dev nD) (t) : (dats (F := F) V Rc 0 c).owed t = 0 := rfl

theorem kitP : Pipeline.PLaunchFacts (nD := nD) (τ := τ) (pcfgs (F := F)) 0 := Pipeline.LaunchFacts.toP (Val := Elt F) launch1

/-! ## The call as a segment of @main -/

/-- The device's arrays after the call: the result's at what the pipeline wrote, every other as before. -/
def Vout (c : Dev nD) : Valuation τ sig (Elt F) := Pipeline.afterRegion (dats V Rc 0 c) (V c)

set_option backward.isDefEq.respectTransparency.types false in
set_option maxHeartbeats 1000000 in
/-- The pipelined call on device `c`: from the arrays at `V`, the generator register and nothing owed (pairs recorded
    within `Rc`), to the arrays at `Vout`, the register and nothing owed, the pairs within `Rc` and the staging cells'. -/
def region (L : GSem nD τ sig → Finset (HIx 1)) (lv : GSem nD τ sig → HIx 1 → ℕ) :
    Pipeline.RegionSeg (pcfgs (F := F)) (fun q => (cfgs q).toPCfg_adm) (dats V Rc) none defs₀ 𝒱₀ L lv 0 where
  win := (kitP (F := F)).win.to₀
  block_pos := (kitP (F := F)).block_pos
  stage_whole := (kitP (F := F)).stage_whole
  K := PEmpty
  osem := fun k => k.elim
  ho := Pipeline.OwnSemFacts.none _
  hbody := fun c => (body_obligation V Rc c).loose
  hwaits := Pipeline.hwaits_of_owed_zero (pcfgs (F := F)) (fun q => (cfgs q).toPCfg_adm) (dats V Rc) none L lv 0 (owed_zero V Rc)
  pre := fun c => iprop(StableHlo.held (c.tc : Thread nD τ) (Pipeline.ucRefs τ sig) (V c) ∗ (∃ r, prngReg c r)
    ∗ Pipeline.owesWithin c (0 : CellTallies nD τ sig (HIx 1)) Rc)
  post := fun c => iprop(StableHlo.held (c.tc : Thread nD τ) (Pipeline.ucRefs τ sig) (Vout V Rc c) ∗ (∃ r, prngReg c r)
    ∗ Pipeline.owesWithin c (0 : CellTallies nD τ sig (HIx 1)) (Rc ∪ cfg1.waitPairs none))
  X := fun c => iprop(∃ r, prngReg c r)
  Y := fun c => iprop(∃ r, prngReg c r)
  Z := fun c => Pipeline.unscopedRest (Ix := HIx 1) (Name := ℕ) (U := UU) (Lvl := ℕ) spec1 c (fun b => V c (Proc.devRef .tc b))
  hentry := fun c => by
    rw [Pipeline.ownSems0_none,
      show StableHlo.held (c.tc : Thread nD τ) (Pipeline.ucRefs τ sig) (V c) = unscopedBufs c (fun b => V c (Proc.devRef .tc b))
        from (Pipeline.unscopedBufs_held (Ix := HIx 1) (Name := ℕ) (U := UU) (Lvl := ℕ) c (V c)).symm]
    have hsplit := Pipeline.arrays_of_unscopedBufs (p := (0 : Fin 1)) (pcfgs (F := F)) (fun q => (cfgs q).toPCfg_adm) (dats V Rc) (kitP (F := F)).win
      (kitP (F := F)).arr_whole c ((dats V Rc 0 c).share_full fun _ => rfl) (fun b => V c (Proc.devRef .tc b)) (fun w => A_eq V Rc c w)
    iintro ⟨⟨Hub, Hp, %W, %hW, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · iexists W; isplitr; · ipureintro; exact fun p hp => Or.inl (hW hp)
      iexact HO
    isplitl [Hp]; · iexact Hp
    iexact Hrest
  hin := fun c => (show _ ⊢ mlpInv c from by
    unfold mlpInv; iintro ⟨Hp, -, Hr⟩
    isplitl [Hr] <;> iassumption)
  hout := fun c => (show mlpInv c ⊢ _ from by
    rw [Pipeline.ownSems0_none]; unfold mlpInv
    iintro ⟨Hr, Hp⟩
    isplitl [Hp]; · iexact Hp
    isplitr; · iempintro
    iexact Hr)
  hexit := fun c => by
    have hjoin := Pipeline.unscopedBufs_of_arrays (p := (0 : Fin 1)) (pcfgs (F := F)) (fun q => (cfgs q).toPCfg_adm) (Ix := HIx 1) (Name := ℕ) (U := UU) (Lvl := ℕ)
      (kitP (F := F)).win (kitP (F := F)).arr_whole c (dats V Rc) ((dats V Rc 0 c).share_full fun _ => rfl)
      (fun b => V c (Proc.devRef .tc b)) (fun b => Vout V Rc c (Proc.devRef .tc b)) ((dats V Rc 0 c).arrAt · cfg1.N)
      (fun w => (Pipeline.afterRegion_arr (dats V Rc 0 c) (V c) winFacts1.arr_inj w).symm)
      (fun b hb => Pipeline.afterRegion_of_not_arr (dats V Rc 0 c) (V c)
        fun w h => hb (h ▸ Finset.mem_image.mpr ⟨w, Finset.mem_univ _, rfl⟩))
    rw [show StableHlo.held (c.tc : Thread nD τ) (Pipeline.ucRefs τ sig) (Vout V Rc c) = unscopedBufs c (fun b => Vout V Rc c (Proc.devRef .tc b))
        from (Pipeline.unscopedBufs_held (Ix := HIx 1) (Name := ℕ) (U := UU) (Lvl := ℕ) c (Vout V Rc c)).symm]
    iintro ⟨Ha, HO, Hp, Hrest⟩
    imodintro
    isplitl [Ha Hrest]
    · iapply hjoin; isplitl [Ha] <;> iassumption
    isplitl [Hp]; · iexact Hp
    iexact HO

/-! ## The result array, block by block, and the arrays the call leaves alone -/

theorem Vout_result (c : Dev nD) : Vout V Rc c (Proc.devRef .tc main_v19) = (dats V Rc 0 c).arrAt 11 cfg1.N :=
  Pipeline.afterRegion_arr (dats V Rc 0 c) (V c) winFacts1.arr_inj 11

theorem out_window : ∀ w : Fin 12, Pipeline.arrRef spec1 w ≠ main_v19 → (cfg1.win w).isOut = false := by decide +kernel

/-- An array that is not the result's is as the call found it. -/
theorem Vout_other (c : Dev nD) (b : Ref sig .tc) (hb : b ≠ main_v19) :
    Vout V Rc c (Proc.devRef .tc b) = V c (Proc.devRef .tc b) := by
  by_cases h : ∃ w, b = Pipeline.arrRef spec1 w
  · obtain ⟨w, rfl⟩ := h
    have hw : (cfg1.win w).isOut = false := out_window w hb
    exact (Pipeline.afterRegion_arr (dats V Rc 0 c) (V c) winFacts1.arr_inj w).trans
      (((dats V Rc 0 c).arrAt_in w hw _).trans (A_eq V Rc c w))
  · exact Pipeline.afterRegion_of_not_arr (dats V Rc 0 c) (V c) fun w e => h ⟨w, e⟩

/-- What point `t` writes back: `outBlk` of the blocks at `t`. -/
theorem flushed_eq (c : Dev nD) (t : Fin cfg1.N) :
    (dats V Rc 0 c).flushed 11 t = (cfg1.win 11).cut (grid1.coords t) (outBlk (iblk V c 0 t) (iblk V c 1 t) (iblk V c 2 t) (iblk V c 3 t) (iblk V c 4 t) (iblk V c 5 t) (iblk V c 6 t) (iblk V c 7 t) (iblk V c 8 t) (iblk V c 9 t) (iblk V c 10 t)) := by
  show (cfg1.win 11).cut (grid1.coords t) ((dats V Rc 0 c).after 11 t) = _
  rw [after_11]

theorem idx_inj : ∀ t t' : Fin cfg1.N, win1_11.index t = win1_11.index t' → t = t' :=
  (by decide +kernel : ∀ t t' : Fin grid1.N, win1_11.index t = win1_11.index t' → t = t')

/-- Two points' result blocks share no index. -/
theorem blk_disjoint : ∀ t t' : Fin cfg1.N, (cfg1.win 11).flush t = true → (cfg1.win 11).flush t' = true → t ≠ t' →
    Disjoint ((cfg1.win 11).blk t).view.set ((cfg1.win 11).blk t').view.set :=
  fun t t' _ _ hne => (cfg1.win 11).disjoint_blk fun h => hne (idx_inj t t' h)

/-- Block `t` of the result array is what point `t` wrote back. -/
theorem result_blk (c : Dev nD) (t : Fin cfg1.N) :
    ((cfg1.win 11).blk t).view.read (Elt F) (Vout V Rc c (Proc.devRef .tc main_v19))
      = (cfg1.win 11).cut (grid1.coords t) (outBlk (iblk V c 0 t) (iblk V c 1 t) (iblk V c 2 t) (iblk V c 3 t) (iblk V c 4 t) (iblk V c 5 t) (iblk V c 6 t) (iblk V c 7 t) (iblk V c 8 t) (iblk V c 9 t) (iblk V c 10 t)) := by
  rw [Vout_result]
  exact ((dats V Rc 0 c).read_blk_arrAt_eq_flushed 11 blk_disjoint cfg1.N t t.isLt (flush1_11 t)).trans (flushed_eq V Rc c t)

end Cert.KernelIdeal.Pf

end
-- ==== Proof.KernelIdeal.Rows.lean ====
/- What the gather kernel's copies address: each tile's lists of row numbers, a list of them, the block of gathered rows
   a trip writes — as plain index arithmetic — and the array the kernel is to leave. -/
module

public import proofs.«01_k».proof.Proof.KernelIdeal.Base
public import proofs.«01_k».proof.Proof.Gen.KernelIdeal.Skeleton
public import Idealize.ShloMosaic.Lib.SparseCore.FromWhole
public import Idealize.ShloMosaic.Lib.ValueLayout

@[expose] public section

noncomputable section

namespace Cert.KernelIdeal.Pf

open Cert.KernelIdeal Cert.KernelIdeal.Gen
open Idealize.ShloMosaic Idealize.ShloMosaic.ValueIdx

variable {F : FTy → Type}

/-! The kernel's arrays and buffers: the table, the row numbers, the output, a tile's lists, its gathered rows. -/
abbrev tabV : Memref sig .scVector .hbm S26000x128 .f32 := Memref.whole main_v0_scv
abbrev idxV : Memref sig .scVector .hbm S32x26x128 .i32 := Memref.whole main_v7_scv
abbrev outV : Memref sig .scVector .hbm S832x128x128 .f32 := Memref.whole main_v8_scv
abbrev listV : Memref sig .scVector .vmem S26x128 .i32 := Memref.whole cc0_scratch0
abbrev rowsV : Memref sig .scVector .vmem S128x128 .f32 := Memref.whole cc0_scratch1

/-! ## The tile's number and the offsets it computes -/

theorem lt_core (i : grid0.Coords) : (i 0).val < 2 := (i 0).isLt
theorem lt_sub (i : grid0.Coords) : (i 1).val < 16 := (i 1).isLt

/-- The number of the tile on SparseCore `i 0`, vector subcore `i 1`: twice the subcore plus the core. -/
def wid (i : grid0.Coords) : Fin 32 := ⟨2 * (i 1).val + (i 0).val, by have := lt_core i; have := lt_sub i; omega⟩

theorem wid_val (i : grid0.Coords) : (wid i).val = 2 * (i 1).val + (i 0).val := rfl

theorem trips_eq : k0_t1_loop.trips = 26 := by decide +kernel

theorem trip_lt (t : Fin k0_t1_loop.trips) : t.val < 26 := trips_eq ▸ t.isLt

/-- A trip's number. -/
abbrev tripOf (t : Fin k0_t1_loop.trips) : Fin 26 := ⟨t.val, trip_lt t⟩

/-- The tile's lists start at the tile's number. -/
theorem off1_eq (i : grid0.Coords) : k0_off1 i = ![(wid i).val, 0, 0] := by
  have h0 := lt_core i; have h1 := lt_sub i
  have h : (Scalar.addi (Scalar.muli (BitVec.ofNat 32 (i 1).val) 2#32) (BitVec.ofNat 32 (i 0).val)).toNat = 2 * (i 1).val + (i 0).val := by
    simp only [Scalar.addi, Scalar.muli, IntOp.addi, IntOp.muli, BitVec.toNat_add, BitVec.toNat_mul, BitVec.toNat_ofNat]; omega
  show ![_, 0, 0] = _
  rw [h]; rfl

/-- Trip `t` uses list `t`. -/
theorem off2_eq : ∀ t : Fin k0_t1_loop.trips, k0_off2 t = ![t.val, 0] := by decide +kernel

theorem iv_eq : ∀ t : Fin k0_t1_loop.trips, (Scf.iv (0#32) (1#32) t.val).toNat = t.val := by decide +kernel

/-- Trip `t` of a tile writes block `26·tile + t`. -/
theorem off3_eq (i : grid0.Coords) (t : Fin k0_t1_loop.trips) : k0_off3 i t = ![26 * (wid i).val + t.val, 0, 0] := by
  have h0 := lt_core i; have h1 := lt_sub i; have ht := trip_lt t
  have h : (Scalar.addi (Scalar.muli (Scalar.addi (Scalar.muli (BitVec.ofNat 32 (i 1).val) 2#32) (BitVec.ofNat 32 (i 0).val)) 26#32)
      (Scf.iv (0#32) (1#32) t.val)).toNat = 26 * (2 * (i 1).val + (i 0).val) + t.val := by
    simp only [Scalar.addi, Scalar.muli, IntOp.addi, IntOp.muli, BitVec.toNat_add, BitVec.toNat_mul, BitVec.toNat_ofNat, iv_eq t]; omega
  show ![_, 0, 0] = _
  rw [h]; rfl

/-! ## The views -/

/-- The tile's lists among all row numbers. -/
abbrev idxK (i : grid0.Coords) : Memref sig .scVector .hbm S26x128 .i32 :=
  ((idxV).slice (Rect.unit (s := S32x26x128) (k0_off1 i) S1x26x128.size (k0_off1_inb i)) (fun _ => rfl)).squeeze S26x128 squeezes_S1x26x128_S26x128
/-- Trip `t`'s list among the tile's. -/
abbrev listK (t : Fin k0_t1_loop.trips) : Memref sig .scVector .vmem S128 .i32 :=
  ((listV).slice (Rect.unit (s := S26x128) (k0_off2 t) S1x128.size (k0_off2_inb t)) (fun _ => rfl)).squeeze S128 squeezes_S1x128_S128
/-- The table, as a trip slices it: all of it. -/
abbrev tabK : Memref sig .scVector .hbm S26000x128 .f32 :=
  (tabV).slice (Rect.unit (s := S26000x128) ![0, 0] S26000x128.size inb_S26000x128_S26000x128_0_0) (fun _ => rfl)
/-- The block trip `t` of a tile writes. -/
abbrev outK (i : grid0.Coords) (t : Fin k0_t1_loop.trips) : Memref sig .scVector .hbm S128x128 .f32 :=
  ((outV).slice (Rect.unit (s := S832x128x128) (k0_off3 i t) S1x128x128.size (k0_off3_inb i t)) (fun _ => rfl)).squeeze S128x128 squeezes_S1x128x128_S128x128

theorem idxK_emb (i : grid0.Coords) (t : Fin 26) (a : Fin 128) : (idxK i).view.emb (ix2 t a) = ix3 (wid i) t a := by
  show (Rect.unit (s := S32x26x128) (k0_off1 i) S1x26x128.size (k0_off1_inb i)).emb (Shape.reshapeEquiv _ (ix2 t a)) = _
  rw [reshapeEquiv_ix2_1ab]
  have h := off1_eq i
  funext b; apply Fin.ext
  match b with
  | 0 => simp [Rect.unit, Rect.emb, h]
  | 1 => simp [Rect.unit, Rect.emb, h]
  | 2 => simp [Rect.unit, Rect.emb, h]

theorem squeeze_list (h : S128.numel = S1x128.numel) (a : Fin 128) : Shape.reshapeEquiv h (ix1 a) = ix2 (0 : Fin 1) a :=
  Shape.reshapeEquiv_eq_of_rowMajor h (by rw [Shape.rowMajor_val_one, Shape.rowMajor_val_two]; simp)

theorem listK_emb (t : Fin k0_t1_loop.trips) (a : Fin 128) : (listK t).view.emb (ix1 a) = ix2 (tripOf t) a := by
  show (Rect.unit (s := S26x128) (k0_off2 t) S1x128.size (k0_off2_inb t)).emb (Shape.reshapeEquiv _ (ix1 a)) = _
  rw [squeeze_list]
  have h := off2_eq t
  funext b; apply Fin.ext
  match b with
  | 0 => simp [Rect.unit, Rect.emb, h]
  | 1 => simp [Rect.unit, Rect.emb, h]

theorem tabK_emb (x : S26000x128.Idx) : (tabK).view.emb x = x := by
  show (Rect.unit (s := S26000x128) ![0, 0] S26000x128.size inb_S26000x128_S26000x128_0_0).emb x = _
  funext b; apply Fin.ext
  match b with
  | 0 => simp [Rect.unit, Rect.emb]
  | 1 => simp [Rect.unit, Rect.emb]

theorem block_lt (i : grid0.Coords) (t : Fin k0_t1_loop.trips) : 26 * (wid i).val + t.val < 832 := by
  have := (wid i).isLt; have := trip_lt t; omega

theorem outK_emb (i : grid0.Coords) (t : Fin k0_t1_loop.trips) (a b : Fin 128) :
    (outK i t).view.emb (ix2 a b) = ix3 (⟨26 * (wid i).val + t.val, block_lt i t⟩ : Fin 832) a b := by
  show (Rect.unit (s := S832x128x128) (k0_off3 i t) S1x128x128.size (k0_off3_inb i t)).emb (Shape.reshapeEquiv _ (ix2 a b)) = _
  rw [reshapeEquiv_ix2_1ab]
  have h := off3_eq i t
  funext c; apply Fin.ext
  match c with
  | 0 => simp [Rect.unit, Rect.emb, h]
  | 1 => simp [Rect.unit, Rect.emb, h]
  | 2 => simp [Rect.unit, Rect.emb, h]

/-! ## The part of the output a tile writes -/

/-- The elements of the output in the blocks of tile `w`. -/
def oSet (w : Fin 32) : Finset S832x128x128.Idx := Finset.univ.filter fun j => (j 0).val / 26 = w.val

theorem mem_oSet {w : Fin 32} {j : S832x128x128.Idx} : j ∈ oSet w ↔ (j 0).val / 26 = w.val := by simp [oSet]

theorem oSet_disjoint {w w' : Fin 32} (h : w ≠ w') : Disjoint (oSet w) (oSet w') :=
  Finset.disjoint_left.mpr fun _ hj hj' => h (Fin.ext ((mem_oSet.mp hj).symm.trans (mem_oSet.mp hj')))

theorem oSet_cover : Finset.univ.biUnion oSet = (Finset.univ : Finset S832x128x128.Idx) := by
  ext j
  have h : (j 0).val < 832 := (j 0).isLt
  simp only [Finset.mem_biUnion, Finset.mem_univ, true_and, iff_true]
  exact ⟨⟨(j 0).val / 26, by omega⟩, mem_oSet.mpr rfl⟩

/-- The block a trip writes lies in its tile's part. -/
theorem outK_subset (i : grid0.Coords) (t : Fin k0_t1_loop.trips) : (outK i t).view.set ⊆ oSet (wid i) := by
  intro j hj
  obtain ⟨x, -, rfl⟩ := Finset.mem_map.mp hj
  obtain ⟨a, b, rfl⟩ : ∃ a b : Fin 128, x = ix2 a b := ⟨x 0, x 1, eq_ix2 x⟩
  refine mem_oSet.mpr ?_
  have ht := trip_lt t
  rw [outK_emb]
  show (26 * (wid i).val + t.val) / 26 = _
  omega

/-! ## The gathered array -/

/-- The table row a word names. -/
def rowOf (w : BitVec 32) : Fin 26000 := ⟨w.toNat % 26000, Nat.mod_lt _ (by norm_num)⟩

theorem rowOf_val {w : BitVec 32} (h : w.toNat < 26000) : (rowOf w).val = w.toNat := Nat.mod_eq_of_lt h

/-- Block `26·w + t` of the output holds, at row `a`, the table row that entry `a` of list `t` of tile `w` names. -/
def gout (T : Vec F S26000x128 .f32) (I : Vec F S32x26x128 .i32) : Vec F S832x128x128 .f32 := fun j =>
  T (ix2 (rowOf (I (ix3 (⟨(j 0).val / 26, Nat.div_lt_of_lt_mul (show (j 0).val < 26 * 32 from (j 0).isLt)⟩ : Fin 32)
    (⟨(j 0).val % 26, Nat.mod_lt _ (by norm_num)⟩ : Fin 26) (j 1)))) (j 2))

theorem gout_block (T : Vec F S26000x128 .f32) (I : Vec F S32x26x128 .i32) (w : Fin 32) (t : Fin 26) (h : 26 * w.val + t.val < 832) (a b : Fin 128) :
    gout T I (ix3 (⟨26 * w.val + t.val, h⟩ : Fin 832) a b) = T (ix2 (rowOf (I (ix3 w t a))) b) := by
  have h1 : (26 * w.val + t.val) / 26 = w.val := by have := t.isLt; omega
  have h2 : (26 * w.val + t.val) % 26 = t.val := by have := t.isLt; omega
  have e : (ix3 (⟨(26 * w.val + t.val) / 26, by omega⟩ : Fin 32) (⟨(26 * w.val + t.val) % 26, by omega⟩ : Fin 26) a : S32x26x128.Idx) = ix3 w t a := by
    simp only [h1, h2]
  show T (ix2 (rowOf (I (ix3 _ _ a))) b) = _
  exact congrArg (fun z => T (ix2 (rowOf (I z)) b)) e

/-- Every word of the row numbers names a row of the table. -/
def InTable (I : Vec F S32x26x128 .i32) : Prop := ∀ j, (I j : BitVec 32).toNat < 26000

/-- The tile's lists once fetched. -/
def lists (I : Vec F S32x26x128 .i32) (w : Fin 32) : Vec F S26x128 .i32 := fun j => I (ix3 w (j 0) (j 1))

theorem read_idxK (I : Vec F S32x26x128 .i32) (i : grid0.Coords) : (idxK i).view.read (Elt F) I = lists I (wid i) := by
  funext j
  obtain ⟨t, a, rfl⟩ : ∃ (t : Fin 26) (a : Fin 128), j = ix2 t a := ⟨j 0, j 1, eq_ix2 j⟩
  refine (View.read_apply _ _).trans ((cast_eq _ _).trans ?_)
  rw [idxK_emb]; rfl

theorem read_listK (I : Vec F S32x26x128 .i32) (w : Fin 32) (t : Fin k0_t1_loop.trips) (x : S128.Idx) :
    (listK t).view.read (Elt F) (lists I w) x = I (ix3 w (tripOf t) (x 0)) := by
  obtain ⟨a, rfl⟩ : ∃ a : Fin 128, x = ix1 a := ⟨x 0, eq_ix1 x⟩
  refine (View.read_apply _ _).trans ((cast_eq _ _).trans ?_)
  rw [listK_emb]; rfl

theorem read_tabK (T : Vec F S26000x128 .f32) : (tabK).view.read (Elt F) T = T := by
  funext x
  refine (View.read_apply _ _).trans ((cast_eq _ _).trans ?_)
  rw [tabK_emb]

/-- The words of a trip's list name rows of the table. -/
theorem inb_list {I : Vec F S32x26x128 .i32} (hI : InTable I) (w : Fin 32) (t : Fin k0_t1_loop.trips) :
    ∀ x, ((listK t).view.read (Elt F) (lists I w) x : BitVec 32).toNat < S26000x128.size gathers_S26000x128_S128x128.axis := by
  intro x; rw [read_listK]; exact hI _

/-- What a trip's gather brings: row `a` is the table row the list's entry `a` names. -/
theorem payload_eq {I : Vec F S32x26x128 .i32} (hI : InTable I) (T : Vec F S26000x128 .f32) (w : Fin 32) (t : Fin k0_t1_loop.trips) (a b : Fin 128)
    (hn : S128.numel = S128x128.size gathers_S26000x128_S128x128.axis') :
    SparseCore.gatherPayload gathers_S26000x128_S128x128 ((tabK).view.read (Elt F) T)
        (SparseCore.rows ((listK t).view.read (Elt F) (lists I w)) hn (inb_list hI w t)) (ix2 a b)
      = T (ix2 (rowOf (I (ix3 w (tripOf t) a))) b) := by
  unfold SparseCore.gatherPayload
  rw [read_tabK]
  refine congrArg T ?_
  funext c; apply Fin.ext
  match c with
  | 0 =>
    refine (congrArg Fin.val (Shape.Gathers.idx_axis gathers_S26000x128_S128x128
      (SparseCore.rows ((listK t).view.read (Elt F) (lists I w)) hn (inb_list hI w t)) (ix2 a b))).trans ?_
    show ((listK t).view.read (Elt F) (lists I w) (S128.rowMajor.symm (Fin.cast hn.symm a)) : BitVec 32).toNat = (rowOf (I (ix3 w (tripOf t) a))).val
    rw [rowOf_val (hI _), read_listK]
    have e : (S128.rowMajor.symm (Fin.cast hn.symm a)) = (ix1 a : S128.Idx) := by
      rw [Equiv.symm_apply_eq]; apply Fin.ext; rw [Shape.rowMajor_val_one]; rfl
    rw [e]
  | 1 => rfl

/-! ## Progress -/

/-- `f` holds the gathered rows in the first `k` blocks of tile `w`. -/
def Done (T : Vec F S26000x128 .f32) (I : Vec F S32x26x128 .i32) (w : Fin 32) (k : ℕ) (f : Vec F S832x128x128 .f32) : Prop :=
  ∀ j ∈ oSet w, (j 0).val % 26 < k → f j = gout T I j

theorem done_zero (T : Vec F S26000x128 .f32) (I : Vec F S32x26x128 .i32) (w : Fin 32) (f : Vec F S832x128x128 .f32) : Done T I w 0 f :=
  fun _ _ h => absurd h (Nat.not_lt_zero _)

/-- After all 26 trips the tile's part is the gathered array's. -/
theorem done_all {T : Vec F S26000x128 .f32} {I : Vec F S32x26x128 .i32} {w : Fin 32} {f : Vec F S832x128x128 .f32} (h : Done T I w 26 f) :
    ∀ j ∈ oSet w, f j = gout T I j := fun j hj => h j hj (Nat.mod_lt _ (by norm_num))

/-- A trip that writes the rows of its list to its block has one more block done. -/
theorem done_step {T : Vec F S26000x128 .f32} {I : Vec F S32x26x128 .i32} {i : grid0.Coords} {t : Fin k0_t1_loop.trips} {f : Vec F S832x128x128 .f32}
    (h : Done T I (wid i) t.val f) {pay : S128x128.Idx → Elt F .f32}
    (hpay : ∀ a b : Fin 128, pay (ix2 a b) = T (ix2 (rowOf (I (ix3 (wid i) (tripOf t) a))) b)) :
    Done T I (wid i) (t.val + 1) ((outK i t).view.write (Elt F) f pay Finset.univ) := by
  intro j hj hlt
  have hj' := mem_oSet.mp hj
  obtain ⟨r, a, b, rfl⟩ : ∃ (r : Fin 832) (a b : Fin 128), j = ix3 r a b := ⟨j 0, j 1, j 2, eq_ix3 j⟩
  replace hj' : r.val / 26 = (wid i).val := hj'
  replace hlt : r.val % 26 < t.val + 1 := hlt
  rcases Nat.lt_or_ge (r.val % 26) t.val with hl | hl
  · refine (View.write_of_not_mem (v := (outK i t).view) f pay Finset.univ ?_).trans (h _ hj hl)
    intro hm
    obtain ⟨x, -, hx⟩ := Finset.mem_map.mp hm
    obtain ⟨a', b', rfl⟩ : ∃ a b : Fin 128, x = ix2 a b := ⟨x 0, x 1, eq_ix2 x⟩
    rw [outK_emb] at hx
    have hr : 26 * (wid i).val + t.val = r.val := congrArg Fin.val (congrFun hx 0)
    have := trip_lt t; omega
  · have hr : r = ⟨26 * (wid i).val + t.val, block_lt i t⟩ := Fin.ext (by show r.val = 26 * (wid i).val + t.val; omega)
    subst hr
    rw [gout_block T I (wid i) (tripOf t) (block_lt i t) a b, ← hpay a b, ← outK_emb i t a b]
    refine (View.write_emb_of_mem (v := (outK i t).view) f pay (Finset.mem_univ (ix2 a b))).trans (cast_eq _ _)

end Cert.KernelIdeal.Pf

end
-- ==== Proof.KernelIdeal.Gather.lean ====
/- The gather kernel on one tile: it fetches the tile's 26 lists of row numbers, then, list by list, gathers the named
   table rows and writes them to the list's block of the output. -/
module

public import proofs.«01_k».proof.Proof.KernelIdeal.Rows

@[expose] public section

noncomputable section

namespace Cert.KernelIdeal.Pf

open Cert.KernelIdeal Cert.KernelIdeal.Gen
open Idealize.ShloMosaic Idealize.ShloMosaic.ValueIdx
open Idealize.ShloMosaic.SparseCore (V)
open Idealize.ShloMosaic.SparseCore.Cfg (HIx Pay ownBufs ownSems0 ownRefs ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's own cells and buffers -/

abbrev coreAt (i : grid0.Coords) : Fin τ.nSC := (i 0).castLE hcore0
abbrev subAt (i : grid0.Coords) : Fin τ.nSub := (i 1).castLE hsub0
/-- The thread of tile `i` on device `d`. -/
abbrev tile (d : Dev nD) (i : grid0.Coords) : Thread nD τ := V d (coreAt i) (subAt i)

abbrev cellG (thr : Thread nD τ) : GSem nD τ sig := (thr, .dma cc0_scratch2.sem)
abbrev cellF (thr : Thread nD τ) : GSem nD τ sig := (thr, .dma cc0_scoped0.sem)
abbrev cellW (thr : Thread nD τ) : GSem nD τ sig := (thr, .dma cc0_scoped1.sem)

/-- A tile's own semaphores: the gather's, the fetch's, the write-out's, and the rest. -/
theorem ownSems0_tile (d : Dev nD) (i : grid0.Coords) :
    (ownSems0 (tile d i) : sProp 𝕄)
      = iprop(semVal (cellG (tile d i)) 0 ∗ semVal (cellF (tile d i)) 0 ∗ semVal (cellW (tile d i)) 0
          ∗ bigSep ((((ownCells (tile d i)).erase (cellG (tile d i))).erase (cellF (tile d i))).erase (cellW (tile d i))) fun g => semVal g 0) := by
  have hG : cellG (tile d i) ∈ ownCells (tile d i) := mem_ownCells.mpr ⟨rfl, show (SemLoc.dma cc0_scratch2.sem : SemLoc sig).isScoped .scVector = true by decide⟩
  have hF : cellF (tile d i) ∈ ownCells (tile d i) := mem_ownCells.mpr ⟨rfl, show (SemLoc.dma cc0_scoped0.sem : SemLoc sig).isScoped .scVector = true by decide⟩
  have hW : cellW (tile d i) ∈ ownCells (tile d i) := mem_ownCells.mpr ⟨rfl, show (SemLoc.dma cc0_scoped1.sem : SemLoc sig).isScoped .scVector = true by decide⟩
  have hFG : cellF (tile d i) ≠ cellG (tile d i) := by simp [cellF, cellG]; decide
  have hWG : cellW (tile d i) ≠ cellG (tile d i) := by simp [cellW, cellG]; decide
  have hWF : cellW (tile d i) ≠ cellF (tile d i) := by simp [cellW, cellF]; decide
  unfold SparseCore.Cfg.ownSems0
  rw [SparseCore.bigSep_erase' hG, SparseCore.bigSep_erase' (Finset.mem_erase.mpr ⟨hFG, hF⟩),
    SparseCore.bigSep_erase' (Finset.mem_erase.mpr ⟨hWF, Finset.mem_erase.mpr ⟨hWG, hW⟩⟩)]

/-- A tile's own buffers: its lists, its gathered rows, and the rest. -/
theorem ownBufs_tile (d : Dev nD) (i : grid0.Coords) :
    (ownBufs (tile d i) : sProp 𝕄)
      = iprop((∃ f, (tile d i).loc cc0_scratch0 ↦{fullShare} f) ∗ (∃ f, (tile d i).loc cc0_scratch1 ↦{fullShare} f)
          ∗ bigSep (((ownRefs (τ := τ) (.scVector (coreAt i) (subAt i))).erase ((Proc.scVector (coreAt i) (subAt i)).devRef cc0_scratch0)).erase
              ((Proc.scVector (coreAt i) (subAt i)).devRef cc0_scratch1))
              fun b => iprop(∃ f, ((d, b) : Loc nD τ sig) ↦{fullShare} f)) := by
  have h0 := SparseCore.Cfg.mem_ownRefs_of_owner (p := Proc.scVector (coreAt i) (subAt i)) (b := (Proc.scVector (coreAt i) (subAt i)).devRef cc0_scratch0) rfl
  have h1 := SparseCore.Cfg.mem_ownRefs_of_owner (p := Proc.scVector (coreAt i) (subAt i)) (b := (Proc.scVector (coreAt i) (subAt i)).devRef cc0_scratch1) rfl
  unfold SparseCore.Cfg.ownBufs
  refine (SparseCore.bigSep_erase' h0).trans ?_
  rw [SparseCore.bigSep_erase' (Finset.mem_erase.mpr ⟨fun e => absurd (Proc.devRef_injective _ e)
    (show (cc0_scratch1 : Ref sig .scVector) ≠ cc0_scratch0 by decide), h1⟩)]

/-! ## What a tile holds -/

variable [FloatOps F]

/-- The read share of tile `w`: one of 32 pieces. -/
abbrev share (w : Fin 32) : PosShare TreeShare := pieceOf fullShare 32 (by norm_num) w

variable (T : Vec F S26000x128 .f32) (I : Vec F S32x26x128 .i32)

/-- What tile `w` holds of the call's arrays: a share of the table, a share of the row numbers, its part of the output
    at `f`. -/
def held3 (d : Dev nD) (w : Fin 32) (f : Vec F S832x128x128 .f32) : sProp 𝕄 :=
  iprop((tLoc d ↦{share w} T) ∗ (iLoc d ↦{share w} I) ∗ (oLoc d ↦[oSet w]{fullShare} f))

/-- What a tile holds before trip `k`: its share of the table, its lists, its row buffer, its part of the output with
    the first `k` blocks done, the two semaphores at zero, and a debt no larger than it was. -/
def tripInv (d : Dev nD) (i : grid0.Coords) (O : CellTallies nD τ sig (HIx 1)) (W : Waits sig (HIx 1)) (k : ℕ) : sProp 𝕄 :=
  iprop((tLoc d ↦{share (wid i)} T) ∗ ((tile d i).loc cc0_scratch0 ↦{fullShare} lists I (wid i))
    ∗ (∃ f, (tile d i).loc cc0_scratch1 ↦{fullShare} f)
    ∗ (∃ f : Vec F S832x128x128 .f32, ⌜Done T I (wid i) k f⌝ ∗ oLoc d ↦[oSet (wid i)]{fullShare} f)
    ∗ semVal (cellG (tile d i)) 0 ∗ semVal (cellW (tile d i)) 0
    ∗ ∃ W', ⌜∀ p ∈ W', p ∈ W ∨ p.2 = none⌝ ∗ owes (tile d i) O W')

theorem gather_credit : ∀ h : S26000x128.Gathers 0 S128x128,
    ∑ j, ((rowsV).slice (S128x128.rowRect h.axis' j) (S128x128.stride_rowRect h.axis' j)).view.dmaCredit = (rowsV).view.dmaCredit := by decide +kernel

theorem out_credit (i : grid0.Coords) (t : Fin k0_t1_loop.trips) : 0 < (outK i t).view.amount (.dma cc0_scoped1.sem) :=
  show 0 < (rowsV).view.dmaCredit by decide

set_option maxHeartbeats 4000000 in
/-- One trip: the rows the list names are gathered and written to the trip's block. -/
theorem trip (hI : InTable I) (d : Dev nD) (i : grid0.Coords) (O : CellTallies nD τ sig (HIx 1)) (W : Waits sig (HIx 1)) (hO : ∀ g, O g none = 0)
    (t : Fin k0_t1_loop.trips) :
    iprop(levAts (K (F := F)).L (K (F := F)).lev ∗ tripInv T I d i O W t.val)
      ⊢ wp frame (wpE (defs₀ (F := F)) 𝒱₀ (tile d i) none) Set.univ
          (k0_t1_body i tabV (Memref.isWhole_whole _) idxV (Memref.isWhole_whole _) outV (Memref.isWhole_whole _)
            listV (Memref.isWhole_whole _) rowsV (Memref.isWhole_whole _) cc0_scratch2 cc0_scoped0 cc0_scoped1 t ())
          fun _ => iprop(levAts (K (F := F)).L (K (F := F)).lev ∗ tripInv T I d i O W (t.val + 1)) := by
  unfold k0_t1_body tripInv
  iintro ⟨#Hlv, Ht, Hl, ⟨%fr, Hr⟩, ⟨%fo, %hdone, Ho⟩, HG, HW, ⟨%W', %hW', HO⟩⟩
  ihave #Hmw := (show levAts (K (F := F)).L (K (F := F)).lev ⊢ Transfers.MayWaits (tile d i) (default : HIx 1) O from
    (K (F := F)).mayWaits_none (thr := tile d i) hO) $$ Hlv
  iapply (SparseCore.wp_gatherFromWhole countersEmb 𝒱₀ (tile d i) none (src := tabK) (dst := rowsV) (offs := listK t)
      (hg := gathers_S26000x128_S128x128) (fs := T) (fd := fr) (fo := lists I (wid i)) (default : HIx 1)
      (rowsV).view.dmaCredit (gather_credit _) (by decide) (inb_list hI (wid i) t)) $$ [Ht Hr Hl HG]
  · isplitl [Ht]; · iexact Ht
    isplitl [Hr]; · iexact Hr
    isplitl [Hl]; · iexact Hl
    iexact HG
  iintro Hfl
  iapply (Transfers.wp_waitLocalO countersEmb 𝒱₀ (tile d i) none (default : HIx 1) (rfl : (rowsV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Ht, Hl⟩, HG, HO⟩
  iapply (Transfers.wp_dmaFromWhole countersEmb 𝒱₀ (tile d i) none (src := rowsV) (dst := outK i t) (via := .same)
      (Sd := oSet (wid i)) (fd := fo) (default : HIx 1) _ rfl (out_credit i t) (outK_subset i t)) $$ [Hr Ho HW]
  · isplitl [Hr]; · iexact Hr
    isplitl [Ho]; · iexact Ho
    iexact HW
  iintro Hfl
  iapply (Transfers.wp_waitLocalO countersEmb 𝒱₀ (tile d i) none (default : HIx 1) rfl) $$ [Hfl HO]
  · isplitl [Hfl]; · iexact Hfl
    isplitl [HO]; · iexact HO
    iapply (Transfers.MayWaits.elim (SemLoc.dma cc0_scoped1.sem)) $$ Hmw
  iintro ⟨⟨Ho, Hr⟩, HW, HO⟩
  simp only [Prog.bind, Prog.pure_eq_ret]; rw [wp_ret]
  isplitr; · iexact Hlv
  isplitl [Ht]; · iexact Ht
  isplitl [Hl]; · iexact Hl
  isplitl [Hr]; · iexists _; iexact Hr
  isplitl [Ho]
  · iexists _; isplitr
    swap; · iexact Ho
    ipureintro
    refine done_step hdone fun a b => ?_
    refine Eq.trans ?_ (payload_eq hI T (wid i) t a b rfl)
    exact congrFun (View.write_whole_univ (Val := Elt F) cc0_scratch1 fr _) (ix2 a b)
  isplitl [HG]; · iexact HG
  isplitl [HW]; · iexact HW
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 4000000 in
/-- The kernel on one tile: from its shares of the table and of the row numbers and its part of the output, at any
    contents, it leaves its part of the output at the gathered rows and everything else as it was. -/
theorem tile_gather (hI : InTable I) (d : Dev nD) (i : grid0.Coords) (f₀ : Vec F S832x128x128 .f32) (O : CellTallies nD τ sig (HIx 1))
    (W : Waits sig (HIx 1)) (hO : ∀ g, O g none = 0) :
    iprop(levAts (K (F := F)).L (K (F := F)).lev ∗ emp ∗ held3 T I d (wid i) f₀
        ∗ scopedBufs (tile d i) ∗ scopedSems0 (tile d i) ∗ owes (tile d i) O W)
      ⊢ wp frame (wpE (defs₀ (F := F)) 𝒱₀ (tile d i) none) Set.univ
          (cc0_k i tabV (Memref.isWhole_whole _) idxV (Memref.isWhole_whole _) outV (Memref.isWhole_whole _)
            listV (Memref.isWhole_whole _) rowsV (Memref.isWhole_whole _) cc0_scratch2 cc0_scoped0 cc0_scoped1)
          fun _ => iprop(held3 T I d (wid i) (gout T I) ∗ scopedBufs (tile d i) ∗ scopedSems0 (tile d i)
            ∗ ∃ W', ⌜∀ p ∈ W', p ∈ W ∨ p.2 = none⌝ ∗ owes (tile d i) O W') := by
  rw [cc0_k_eq_skeleton]; unfold cc0_k_skel held3
  rw [(K (F := F)).scopedBufs_V facts d (coreAt i) (subAt i), SparseCore.Cfg.scopedSems0_V (Val := Elt F) d (coreAt i) (subAt i),
    ownSems0_tile, ownBufs_tile]
  iintro ⟨#Hlv, -, ⟨Ht, Hi, Ho⟩, ⟨⟨%fl, Hl⟩, ⟨%fr, Hr⟩, Hbufs⟩, ⟨HG, HF, HW, Hsems⟩, HO⟩
  ihave #Hmw := (show levAts (K (F := F)).L (K (F := F)).lev ⊢ Transfers.MayWaits (tile d i) (default : HIx 1) O from
    (K (F := F)).mayWaits_none (thr := tile d i) hO) $$ Hlv
  iapply (Transfers.wp_dmaFromWhole countersEmb 𝒱₀ (tile d i) none (src := idxK i) (dst := listV) (via := .same)
      (Sd := Finset.univ) (fd := fl) (default : HIx 1) (listV).view.dmaCredit rfl (by decide) (Finset.subset_univ _)) $$ [Hi Hl HF]
  · isplitl [Hi]; · iexact Hi
    isplitl [Hl]; · iexact Hl
    iexact HF
  iintro Hfl
  iapply (Transfers.wp_waitLocalO countersEmb 𝒱₀ (tile d i) none (default : HIx 1) rfl) $$ [Hfl HO]
  · isplitl [Hfl]; · iexact Hfl
    isplitl [HO]; · iexact HO
    iapply (Transfers.MayWaits.elim (SemLoc.dma cc0_scoped0.sem)) $$ Hmw
  iintro ⟨⟨Hl, Hi⟩, HF, HO⟩
  have hl : (listV).view.write (Elt F) fl (ReadAs.same.apply ((idxK i).view.read (Elt F) I)) Finset.univ = lists I (wid i) :=
    (View.write_whole_univ (Val := Elt F) cc0_scratch0 fl _).trans (read_idxK I i)
  rw [hl]
  iapply (Scf.wp_for_bind frame (wpE (defs₀ (F := F)) 𝒱₀ (tile d i) none) Set.univ _ _ _ k0_t1_ok ()
    (k0_t1_body i tabV (Memref.isWhole_whole _) idxV (Memref.isWhole_whole _) outV (Memref.isWhole_whole _)
            listV (Memref.isWhole_whole _) rowsV (Memref.isWhole_whole _) cc0_scratch2 cc0_scoped0 cc0_scoped1)
    (fun k _ => iprop(levAts (K (F := F)).L (K (F := F)).lev ∗ tripInv T I d i O W k)) (fun t _ => trip T I hI d i O W hO t)) $$ [Ht Hl Hr Ho HG HW HO]
  · isplitr; · iexact Hlv
    unfold tripInv
    isplitl [Ht]; · iexact Ht
    isplitl [Hl]; · iexact Hl
    isplitl [Hr]; · iexists _; iexact Hr
    isplitl [Ho]
    · iexists _; isplitr
      swap; · iexact Ho
      ipureintro; exact done_zero T I (wid i) f₀
    isplitl [HG]; · iexact HG
    isplitl [HW]; · iexact HW
    iexists _; isplitr
    swap; · iexact HO
    ipureintro; intro p hp
    rcases Finset.mem_insert.mp hp with hp | hp; · exact .inr (hp ▸ rfl)
    exact .inl hp
  iintro %_u ⟨-, Hinv⟩
  unfold tripInv
  icases Hinv with ⟨Ht, Hl, ⟨%fr', Hr⟩, ⟨%fo, %hdone, Ho⟩, HG, HW, ⟨%W', %hW', HO⟩⟩
  have hd : Done T I (wid i) 26 fo := by
    have h := trips_eq; rw [← h]; exact hdone
  have hfo : (oLoc d ↦[oSet (wid i)]{fullShare} fo : sProp 𝕄) = oLoc d ↦[oSet (wid i)]{fullShare} gout T I :=
    pointsTo_congr (ℓ := oLoc d) (done_all hd)
  simp only [Prog.pure_eq_ret]; rw [wp_ret]
  imodintro
  isplitl [Ht Hi Ho]
  · isplitl [Ht]; · iexact Ht
    isplitl [Hi]; · iexact Hi
    rw [← hfo]; iexact Ho
  isplitl [Hl Hr Hbufs]
  · isplitl [Hl]; · iexists _; iexact Hl
    isplitl [Hr]; · iexists _; iexact Hr
    iexact Hbufs
  isplitl [HG HF HW Hsems]
  · isplitl [HG]; · iexact HG
    isplitl [HF]; · iexact HF
    isplitl [HW]; · iexact HW
    iexact Hsems
  iexists W'; isplitr
  · ipureintro; exact hW'
  iexact HO

end Cert.KernelIdeal.Pf

end
-- ==== Proof.KernelIdeal.Host.lean ====
/- The host operations of @main, before and after the SparseCore call, and what the device's arrays hold between them. -/
module

public import proofs.«01_k».proof.Proof.KernelIdeal.Mlp
public import proofs.«01_k».proof.Proof.KernelIdeal.Gather
public import Idealize.ShloMosaic.Lib.StableHlo.RunRead

@[expose] public section

noncomputable section

namespace Cert.KernelIdeal.Pf

open Cert.KernelIdeal Cert.KernelIdeal.Gen
open Idealize.ShloMosaic Idealize.ShloMosaic.ValueIdx
open Idealize.ShloMosaic.TcCoe
open Idealize.ShloMosaic.SparseCore.Cfg (HIx Pay)

variable {F : FTy → Type} [FloatOps F]

/-- The host operations before the SparseCore call: the table flattened, and each index moved to its feature's rows. -/
def opsA : List (HloOp τ sig (Elt F)) :=
  [ StableHlo.reshape main_arg2 main_v0 (rfl : (.f32 : EltTy) = .f32) shapeCasts_S26x1000x128_S26000x128,
    StableHlo.nullary main_v1 (iotaInDim S26 32 0),
    StableHlo.nullary main_c (constantI S_ 32 1000#32),
    StableHlo.unary main_c main_v2 (broadcastInDim S26 ![] bcast_S_S26 : (⟨S_, .i32⟩ : BufTy).Contents (Elt F) → (⟨S26, .i32⟩ : BufTy).Contents (Elt F)),
    StableHlo.binary main_v1 main_v2 main_v3 (muli : (⟨S26, .i32⟩ : BufTy).Contents (Elt F) → (⟨S26, .i32⟩ : BufTy).Contents (Elt F) → (⟨S26, .i32⟩ : BufTy).Contents (Elt F)),
    StableHlo.unary main_v3 main_v4 (broadcastInDim S1x26 ![1] bcast_S26_S1x26_1 : (⟨S26, .i32⟩ : BufTy).Contents (Elt F) → (⟨S1x26, .i32⟩ : BufTy).Contents (Elt F)),
    StableHlo.unary main_v4 main_v5 (broadcastInDim S4096x26 ![0, 1] bcast_S1x26_S4096x26_0_1 : (⟨S1x26, .i32⟩ : BufTy).Contents (Elt F) → (⟨S4096x26, .i32⟩ : BufTy).Contents (Elt F)),
    StableHlo.binary main_arg1 main_v5 main_v6 (addi : (⟨S4096x26, .i32⟩ : BufTy).Contents (Elt F) → (⟨S4096x26, .i32⟩ : BufTy).Contents (Elt F) → (⟨S4096x26, .i32⟩ : BufTy).Contents (Elt F)),
    StableHlo.reshape main_v6 main_v7 (rfl : (.i32 : EltTy) = .i32) shapeCasts_S4096x26_S32x26x128 ]

/-- The host operations after the SparseCore call: the gathered rows laid out by sample, the weights rounded, the biases
    made rows, the last layer's weights cut in two. -/
def opsB : List (HloOp τ sig (Elt F)) :=
  [ StableHlo.reshape main_v8 main_v9 (rfl : (.f32 : EltTy) = .f32) shapeCasts_S832x128x128_S4096x3328,
    StableHlo.unary main_arg3 main_v10 ((truncf .bf16 · bitsLt_bf16_f32) : (⟨S3328x1024, .f32⟩ : BufTy).Contents (Elt F) → (⟨S3328x1024, .bf16⟩ : BufTy).Contents (Elt F)),
    StableHlo.reshape main_arg4 main_v11 (rfl : (.f32 : EltTy) = .f32) shapeCasts_S1024_S1x1024,
    StableHlo.unary main_arg5 main_v12 ((truncf .bf16 · bitsLt_bf16_f32) : (⟨S1024x512, .f32⟩ : BufTy).Contents (Elt F) → (⟨S1024x512, .bf16⟩ : BufTy).Contents (Elt F)),
    StableHlo.reshape main_arg6 main_v13 (rfl : (.f32 : EltTy) = .f32) shapeCasts_S512_S1x512,
    StableHlo.unary main_arg7 main_v14 ((truncf .bf16 · bitsLt_bf16_f32) : (⟨S512x256, .f32⟩ : BufTy).Contents (Elt F) → (⟨S512x256, .bf16⟩ : BufTy).Contents (Elt F)),
    StableHlo.reshape main_arg8 main_v15 (rfl : (.f32 : EltTy) = .f32) shapeCasts_S256_S1x256,
    StableHlo.unary main_arg9 main_v16 ((extractStridedSlice S1024x1 ![0, 0] · slices_S1280x1_S1024x1_0_0) : (⟨S1280x1, .f32⟩ : BufTy).Contents (Elt F) → (⟨S1024x1, .f32⟩ : BufTy).Contents (Elt F)),
    StableHlo.unary main_arg9 main_v17 ((extractStridedSlice S256x1 ![1024, 0] · slices_S1280x1_S256x1_1024_0) : (⟨S1280x1, .f32⟩ : BufTy).Contents (Elt F) → (⟨S256x1, .f32⟩ : BufTy).Contents (Elt F)),
    StableHlo.reshape main_arg10 main_v18 (rfl : (.f32 : EltTy) = .f32) shapeCasts_S1_S1x1 ]

/-- @main: the host operations, the SparseCore call, the host operations, the pipelined call. -/
theorem main_eq (d : Dev nD) :
    main (F := F) d = (StableHlo.seq opsA >>= fun _ => (K (F := F)).run d 0 >>= fun _ => StableHlo.seq opsB >>= fun _ =>
      Idealize.SL.Sem.Prog.lift (.customCall (SparseCore.inner (Pipeline.entry 0)) ()) >>= fun _ => pure ⟨⟩) := by
  rw [StableHlo.seq_bind_seqK]
  simp only [StableHlo.seq_bind_seqK]
  rfl

theorem opsA_bufs : ∀ op ∈ opsA (F := F), op.bufs ⊆ Pipeline.ucRefs τ sig := by
  have h : (opsA (F := F)).Forall fun op => op.bufs ⊆ StableHlo.tcRefs τ sig := by
    simp [opsA, List.Forall]
  exact fun op ho => Pipeline.sub_ucRefs op (List.forall_iff_forall_mem.1 h op ho)
theorem opsB_bufs : ∀ op ∈ opsB (F := F), op.bufs ⊆ Pipeline.ucRefs τ sig := by
  have h : (opsB (F := F)).Forall fun op => op.bufs ⊆ StableHlo.tcRefs τ sig := by
    simp [opsB, List.Forall]
  exact fun op ho => Pipeline.sub_ucRefs op (List.forall_iff_forall_mem.1 h op ho)
theorem opsA_fresh : ∀ op ∈ opsA (F := F), op.fresh = ∅ :=
  List.forall_iff_forall_mem.1 (StableHlo.forall_fresh_of_map rfl)
theorem opsB_fresh : ∀ op ∈ opsB (F := F), op.fresh = ∅ :=
  List.forall_iff_forall_mem.1 (StableHlo.forall_fresh_of_map rfl)

variable (m : (ℓ : Loc nD τ sig) → Buf (Elt F) ℓ)

/-- Device `d`'s arrays at the launch. -/
def VL (d : Dev nD) : Valuation τ sig (Elt F) := fun b => m (d, b)
/-- They after the first host operations. -/
def VA (d : Dev nD) : Valuation τ sig (Elt F) := StableHlo.after opsA (VL m d)
/-- The table and the row numbers the SparseCore call reads. -/
def tab (d : Dev nD) : Vec F S26000x128 .f32 := VA m d (Proc.devRef .tc main_v0)
def nums (d : Dev nD) : Vec F S32x26x128 .i32 := VA m d (Proc.devRef .tc main_v7)
/-- The arrays after the SparseCore call: its result holds the gathered rows. -/
def VG (d : Dev nD) : Valuation τ sig (Elt F) :=
  Function.update (VA m d) (Proc.devRef .tc main_v8) (gout (tab m d) (nums m d))
/-- They after the second host operations. -/
def VB (d : Dev nD) : Valuation τ sig (Elt F) := StableHlo.after opsB (VG m d)

/-- No host operation writes an argument, and neither call does. -/
theorem VB_arg (d : Dev nD) (r : Ref sig .tc) (hA : r ∉ [main_v0, main_v1, main_c, main_v2, main_v3, main_v4, main_v5, main_v6, main_v7])
    (hG : r ≠ main_v8) (hB : r ∉ [main_v9, main_v10, main_v11, main_v12, main_v13, main_v14, main_v15, main_v16, main_v17, main_v18]) :
    VB m d (Proc.devRef .tc r) = m ((d.tc : Thread nD τ).loc r) := by
  unfold VB
  rw [StableHlo.after_unwritten [main_v9, main_v10, main_v11, main_v12, main_v13, main_v14, main_v15, main_v16, main_v17, main_v18] rfl hB]
  unfold VG
  rw [Function.update_of_ne (fun e => hG (Proc.devRef_injective _ e))]
  unfold VA
  rw [StableHlo.after_unwritten [main_v0, main_v1, main_c, main_v2, main_v3, main_v4, main_v5, main_v6, main_v7] rfl hA]
  rfl

theorem tab_eq (d : Dev nD) : tab m d = shapeCast S26000x128 (m ((d.tc : Thread nD τ).loc main_arg2)) shapeCasts_S26x1000x128_S26000x128 := by
  unfold tab VA opsA
  after_reads_simp
  rfl

theorem nums_eq (d : Dev nD) : nums m d = shapeCast S32x26x128 (addi (m ((d.tc : Thread nD τ).loc main_arg1) : Vec F S4096x26 .i32)
    (broadcastInDim S4096x26 ![0, 1] bcast_S1x26_S4096x26_0_1 (broadcastInDim S1x26 ![1] bcast_S26_S1x26_1
      (muli (iotaInDim S26 32 0 : Vec F S26 .i32) (broadcastInDim S26 ![] bcast_S_S26 (constantI S_ 32 1000#32 : Vec F S_ .i32))))))
    shapeCasts_S4096x26_S32x26x128 := by
  unfold nums VA opsA
  after_reads_simp
  rfl

end Cert.KernelIdeal.Pf

end
-- ==== Proof.KernelIdeal.Launch.lean ====
/- The launch: how the SparseCore call's arrays are dealt to its tiles and brought back, the ghost state the proof
   starts from, @main on the TensorCore, and the program's run. -/
module

public import proofs.«01_k».proof.Proof.KernelIdeal.Host

@[expose] public section

noncomputable section

namespace Cert.KernelIdeal.Pf

open Cert.KernelIdeal Cert.KernelIdeal.Gen
open Idealize.ShloMosaic Idealize.ShloMosaic.ValueIdx
open Idealize.ShloMosaic.TcCoe
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays dealt to the tiles -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tiles in the order the kernel numbers them. -/
def tileNo (p : Fin 2 × Fin 16) : Fin 32 := wid (coordsV p.1 p.2)

theorem tileNo_bij : Function.Bijective tileNo := by decide

def tiles : Fin 2 × Fin 16 ≃ Fin 32 := Equiv.ofBijective tileNo tileNo_bij

/-- Every tile's shares together are the three arrays whole. -/
theorem held3_all (tb : Vec F S26000x128 .f32) (ix : Vec F S32x26x128 .i32) (d : Dev nD) (f : Vec F S832x128x128 .f32) :
    (bigSep Finset.univ fun c : Fin 2 => bigSep Finset.univ fun s : Fin 16 => held3 tb ix d (tileNo (c, s)) f : sProp 𝕄)
      = iprop((tLoc d ↦{fullShare} tb) ∗ (iLoc d ↦{fullShare} ix) ∗ (oLoc d ↦{fullShare} f)) := by
  have h1 := (bigSep_univ_prod (M := MT nD τ sig (HIx 1) (Elt F) ℕ UU ℕ) fun p : Fin 2 × Fin 16 => held3 tb ix d (tileNo p) f).symm
  have h2 := (bigSep_univ_equiv (M := MT nD τ sig (HIx 1) (Elt F) ℕ UU ℕ) tiles fun w => held3 tb ix d w f).symm
  refine h1.trans (h2.trans ?_)
  unfold held3
  rw [bigSep_sep', bigSep_sep', ← pointsTo_piecesOf, ← pointsTo_piecesOf,
    ← pointsTo_biUnion Finset.univ (ℓ := oLoc d) oSet (fun _ _ _ _ h => oSet_disjoint h), oSet_cover]

variable (m : (ℓ : Loc nD τ sig) → Buf (Elt F) ℓ) (ρ : Dev nD → PrngReg)

/-- What tile `s` of SparseCore `c` takes: its shares of the table, the row numbers and the call's result. -/
def takes (d : Dev nD) (c : Fin 2) (s : Fin 16) : sProp 𝕄 := held3 (tab m d) (nums m d) d (tileNo (c, s)) (VA m d (Proc.devRef .tc main_v8))
/-- What it brings back: the same, its part of the result at the gathered rows. -/
def brings (d : Dev nD) (c : Fin 2) (s : Fin 16) : sProp 𝕄 := held3 (tab m d) (nums m d) d (tileNo (c, s)) (gout (tab m d) (nums m d))

instance takes_storable (d : Dev nD) (c : Fin 2) (s : Fin 16) : BI.Storable (upEmb : UEmb _ 𝕄) (takes m d c s) := by
  unfold takes held3; infer_instance
instance brings_storable (d : Dev nD) (c : Fin 2) (s : Fin 16) : BI.Storable (upEmb : UEmb _ 𝕄) (brings m d c s) := by
  unfold brings held3; infer_instance

/-- The one call hands each SparseCore its tiles' shares, and each tile its own. -/
def P : (K (F := F)).Pay (nD := nD) (Val := Elt F) (Name := ℕ) (U := UU) where
  st := fun q d c => match q with | 0 => bigSep Finset.univ fun s : Fin 16 => takes m d (Fin.cast nCore_zero c) s
  dn := fun q d c => match q with | 0 => bigSep Finset.univ fun s : Fin 16 => brings m d (Fin.cast nCore_zero c) s
  go := fun q d c i => match q with | 0 => takes m d (Fin.cast nCore_zero c) (Fin.cast nSub_zero i)
  td := fun q d c i => match q with | 0 => brings m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => takes m d (Fin.cast nCore_zero c) s))
  dn q d c := match q with
    | 0 => (inferInstance : BI.Storable (upEmb : UEmb _ 𝕄) (bigSep Finset.univ fun s : Fin 16 => brings m d (Fin.cast nCore_zero c) s))
  go q d c i := match q with
    | 0 => (inferInstance : BI.Storable (upEmb : UEmb _ 𝕄) (takes m d (Fin.cast nCore_zero c) (Fin.cast nSub_zero i)))
  td q d c i := match q with
    | 0 => (inferInstance : BI.Storable (upEmb : UEmb _ 𝕄) (brings m d (Fin.cast nCore_zero c) (Fin.cast nSub_zero i)))

theorem vecSplit : (K (F := F)).VecSplit' (P m) 0 := by
  intro d c
  show (bigSep Finset.univ fun s : Fin 16 => takes m d (Fin.cast nCore_zero c) s) ⊢ |={Set.univ}=> iprop(
      (bigSep Finset.univ fun i : Fin 16 => takes m d (Fin.cast nCore_zero c) i)
      ∗ ((bigSep Finset.univ fun i : Fin 16 => brings m d (Fin.cast nCore_zero c) i)
          -∗ bigSep Finset.univ fun s : Fin 16 => brings m d (Fin.cast nCore_zero c) s))
  iintro H; imodintro
  isplitl [H]; · iexact H
  iintro H; iexact H

theorem st_all (d : Dev nD) : (bigSep Finset.univ fun c : Fin ((K (F := F)).nCore 0) => (P m).st 0 d c)
    = iprop((tLoc d ↦{fullShare} tab m d) ∗ (iLoc d ↦{fullShare} nums m d) ∗ (oLoc d ↦{fullShare} VA m d (Proc.devRef .tc main_v8))) :=
  held3_all (tab m d) (nums m d) d _
theorem dn_all (d : Dev nD) : (bigSep Finset.univ fun c : Fin ((K (F := F)).nCore 0) => (P m).dn 0 d c)
    = iprop((tLoc d ↦{fullShare} tab m d) ∗ (iLoc d ↦{fullShare} nums m d) ∗ (oLoc d ↦{fullShare} gout (tab m d) (nums m d))) :=
  held3_all (tab m d) (nums m d) d _

/-! ## Each tile's task -/

theorem defs₀_vector (c : Fin τ.nSC) (s : Fin τ.nSub) :
    defs₀ (F := F) (.scVector c s) 0 ()
      = SparseCore.onTile hcore0 hsub0 (fun c s => cc0_k (coordsV c s)
          tabV (Memref.isWhole_whole _) idxV (Memref.isWhole_whole _) outV (Memref.isWhole_whole _)
          listV (Memref.isWhole_whole _) rowsV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task, the row numbers within the table. -/
theorem tileObl (hI : ∀ d, InTable (F := F) (nums m d)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_gather (tab m d) (nums m d) (hI d) d (coordsV ⟨_, hci.1⟩ ⟨_, hci.2⟩) (VA m d (Proc.devRef .tc main_v8)) O W hO).trans
    (wp_mono frame _ _ fun _ => obl_post)

/-! ## The ghost state at the launch -/

abbrev pcfg : Fin 1 → Pipeline.PCfg sig Λ₀ (Elt F) := pcfgs (F := F)
abbrev padm (q : Fin 1) : (pcfgs (F := F) q).Adm := (cfgs q).toPCfg_adm

def u₀ : UU := (initOf (K (F := F)).hsCells (K (F := F)).hsToks,
  (initOf (Pipeline.cells (nD := nD) (τ := τ) cfgs cellOf_inj) (Pipeline.launchToks (nD := nD) (τ := τ) cfgs cellOf_inj), 1))

/-- The pipeline's part of it, on device `d`. -/
def G (d : Dev nD) : sProp 𝕄 := iprop(Pipeline.cellsGhost cfgs (EP (F := F)) 0 d ∗ Pipeline.toksInit cfgs (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, Hr⟩
  ihave H := (own_pair_emb embR (initOf (Pipeline.cells (nD := nD) (τ := τ) cfgs cellOf_inj) (Pipeline.launchToks (nD := nD) (τ := τ) cfgs cellOf_inj) : UP) (1 : Counters)) $$ Hr
  icases H with ⟨HP, -⟩
  ihave HP := (show (BI.own (((Emb.inl : Emb UP (UP × Counters)).trans embR)
      (initOf (Pipeline.cells (nD := nD) (τ := τ) cfgs cellOf_inj) (Pipeline.launchToks (nD := nD) (τ := τ) cfgs cellOf_inj) : UP)) : sProp 𝕄)
    ⊢ BI.own (EP (F := F) (initOf (Pipeline.cells (nD := nD) (τ := τ) cfgs cellOf_inj) (Pipeline.launchToks (nD := nD) (τ := τ) cfgs cellOf_inj)))
      from Entails.of_eq rfl) $$ HP
  imod (Pipeline.fund_ghost (nD := nD) (τ := τ) cfgs (EP (F := F)) cellOf_inj) $$ HP with ⟨Hc, Ht⟩
  imodintro
  isplitl [HH]; · iexact HH
  isplitl [Hc Ht]
  · unfold G
    rw [bigSep_sep']
    isplitl [Hc]
    · iapply (Entails.of_eq (show (bigSep Finset.univ fun c : Dev nD => bigSep Finset.univ fun p : Fin 1 => Pipeline.cellsGhost cfgs (EP (F := F)) p c : sProp 𝕄)
        = bigSep Finset.univ fun c : Dev nD => Pipeline.cellsGhost cfgs (EP (F := F)) 0 c from bigSep_congr fun _ _ => bigSep_univ_of_subsingleton (0 : Fin 1)))
      iexact Hc
    · iapply (Entails.of_eq (show (bigSep Finset.univ fun c : Dev nD => bigSep Finset.univ fun p : Fin 1 => Pipeline.toksInit cfgs (EP (F := F)) p c : sProp 𝕄)
        = bigSep Finset.univ fun c : Dev nD => Pipeline.toksInit cfgs (EP (F := F)) 0 c from bigSep_congr fun _ _ => bigSep_univ_of_subsingleton (0 : Fin 1)))
      iexact Ht
  rw [show (bigSep Finset.univ fun thr : Thread nD τ => bigSep Finset.univ fun q : Fin 1 => (P (F := F) m).x q thr) = (iprop(emp) : sProp 𝕄) from
    (bigSep_congr fun _ _ => bigSep_univ_of_subsingleton (0 : Fin 1)).trans (bigSep_emp_const _)]
  iempintro

/-! ## @main on the TensorCore -/

/-- The three arrays of the SparseCore call. -/
abbrev callRefs : Finset (DevRef τ sig) := {Proc.devRef .tc main_v0, Proc.devRef .tc main_v7, Proc.devRef .tc main_v8}

theorem callRefs_sub : callRefs ⊆ Pipeline.ucRefs τ sig := by
  intro b hb
  simp only [callRefs, Finset.mem_insert, Finset.mem_singleton] at hb
  rcases hb with rfl | rfl | rfl <;> exact Pipeline.devRef_mem_ucRefs (by decide)

/-- The device's arrays, the three of the SparseCore call apart. -/
theorem held_call (W : Valuation τ sig (Elt F)) (d : Dev nD) :
    (StableHlo.held (d.tc : Thread nD τ) (Pipeline.ucRefs τ sig) W : sProp 𝕄)
      = iprop(((tLoc d ↦{fullShare} W (Proc.devRef .tc main_v0)) ∗ (iLoc d ↦{fullShare} W (Proc.devRef .tc main_v7))
          ∗ (oLoc d ↦{fullShare} W (Proc.devRef .tc main_v8)))
        ∗ StableHlo.held (d.tc : Thread nD τ) (Pipeline.ucRefs τ sig \ callRefs) W) := by
  rw [StableHlo.held_sub_split _ callRefs_sub]
  congr 1
  unfold StableHlo.held callRefs
  rw [SparseCore.bigSep_insert' (by decide), SparseCore.bigSep_insert' (by decide), bigSep_singleton]

theorem held_VG (d : Dev nD) :
    (StableHlo.held (d.tc : Thread nD τ) (Pipeline.ucRefs τ sig) (VG m d) : sProp 𝕄)
      = iprop(((tLoc d ↦{fullShare} tab m d) ∗ (iLoc d ↦{fullShare} nums m d) ∗ (oLoc d ↦{fullShare} gout (tab m d) (nums m d)))
        ∗ StableHlo.held (d.tc : Thread nD τ) (Pipeline.ucRefs τ sig \ callRefs) (VA m d)) := by
  rw [held_call]
  have h0 : VG m d (Proc.devRef .tc main_v0) = tab m d := Function.update_of_ne (by decide) _ _
  have h7 : VG m d (Proc.devRef .tc main_v7) = nums m d := Function.update_of_ne (by decide) _ _
  have h8 : VG m d (Proc.devRef .tc main_v8) = gout (tab m d) (nums m d) := Function.update_self _ _ _
  rw [h0, h7, h8, StableHlo.held_congr (V := VG m d) (V' := VA m d) _ fun b hb => Function.update_of_ne (fun e => by
    subst e; simp [callRefs] at hb) _ _]

/-- What @main leaves: the device's arrays as the pipelined call left them. -/
def FIN (d : Dev nD) : sProp 𝕄 :=
  iprop(∃ Rc : Set (SemLoc sig × HIx 1), StableHlo.held (d.tc : Thread nD τ) (Pipeline.ucRefs τ sig) (Vout (VB m) Rc d))

theorem bufs_VL (d : Dev nD) : (unscopedBufs d (fun b => m ((SparseCore.T d).loc b)) : sProp 𝕄)
    = StableHlo.held (d.tc : Thread nD τ) (Pipeline.ucRefs τ sig) (VL m d) := by
  have h := Pipeline.unscopedBufs_held (Ix := HIx 1) (Name := ℕ) (U := UU) (Lvl := ℕ) d (VL m d)
  exact h

theorem last_eq : (Prog.lift (.customCall (SparseCore.inner (Pipeline.entry 0)) ()) >>= fun _ => pure PUnit.unit :
      Prog (TpuEff nD τ sig (Elt F) (SparseCore.Sig (ΛP (F := F)) 1) .tc) PUnit)
    = SparseCore.liftProg (Q := 1) (Prog.op (.customCall (Pipeline.entry 0) ()) fun _ => .ret PUnit.unit : Prog (TpuEff nD τ sig (Elt F) (ΛP (F := F)) .tc) PUnit) := rfl

/-- The pipelined call as @main's last step, from arrays at any contents `Vb`. -/
theorem region_step (Vb : Dev nD → Valuation τ sig (Elt F)) (d : Dev nD) (W : Waits sig (HIx 1)) {Q : PUnit → sProp 𝕄} :
    iprop(boundary (SparseCore.T d) ∗ StableHlo.held (d.tc : Thread nD τ) (Pipeline.ucRefs τ sig) (Vb d) ∗ prngReg d (ρ d)
        ∗ owes (SparseCore.T d) (0 : CellTallies nD τ sig (HIx 1)) W ∗ levAts (K (F := F)).L (K (F := F)).lev ∗ G d
        ∗ ((boundary (SparseCore.T d)
            ∗ (∃ Rc : Set (SemLoc sig × HIx 1), StableHlo.held (d.tc : Thread nD τ) (Pipeline.ucRefs τ sig) (Vout Vb Rc d))
            ∗ ∃ W', ⌜∀ p ∈ W', p ∈ W ∨ p.2 = none⌝ ∗ owes (SparseCore.T d) (0 : CellTallies nD τ sig (HIx 1)) W') -∗ Q ⟨⟩))
      ⊢ wp frame (wpE ((K (F := F)).defs (D (F := F))) 𝒱 (SparseCore.T d) none) Set.univ
          (Prog.lift (.customCall (SparseCore.inner (Pipeline.entry 0)) ()) >>= fun _ => pure PUnit.unit) Q := by
  rw [last_eq]
  refine BI.Entails.trans ?_ ((K (F := F)).wp_liftProg (D (F := F)) 𝒱 (SparseCore.T d) Set.univ none _ _)
  refine BI.Entails.trans ?_ (Pipeline.RegionSeg.wp (pcfgs (F := F)) (fun q => (cfgs q).toPCfg_adm) (dats Vb (W : Set (SemLoc sig × HIx 1))) none cellOf_inj (EP (F := F)) defs₀ 𝒱₀
    (K (F := F)).L (K (F := F)).lev (region Vb (W : Set (SemLoc sig × HIx 1)) (K (F := F)).L (K (F := F)).lev) d none (fun _ h => nomatch h) _ _)
  unfold G
  change (_ : sProp 𝕄) ⊢ (_ : sProp 𝕄)
  iintro ⟨Hb, Hu, Hp, HO, Hlv, ⟨Hc, Ht⟩, Hk⟩
  isplitr [Hb Hu Hp HO Hlv Hc Ht]
  · iintro ⟨Hb, Hpost⟩
    ihave Hpost := (show (region Vb (W : Set (SemLoc sig × HIx 1)) (K (F := F)).L (K (F := F)).lev).post d
      ⊢ iprop(StableHlo.held (d.tc : Thread nD τ) (Pipeline.ucRefs τ sig) (Vout Vb (W : Set (SemLoc sig × HIx 1)) d) ∗ (∃ r, prngReg d r)
        ∗ ∃ W' : Waits sig (HIx 1), ⌜(W' : Set (SemLoc sig × HIx 1)) ⊆ (W : Set (SemLoc sig × HIx 1)) ∪ cfg1.waitPairs none⌝ ∗ owes (d.tc : Thread nD τ) (0 : CellTallies nD τ sig (HIx 1)) W') from Entails.of_eq rfl) $$ Hpost
    icases Hpost with ⟨Hu, -, %W', %hW', HO⟩
    rw [wp_ret]
    imodintro
    iapply Hk
    isplitl [Hb]; · iexact Hb
    isplitl [Hu]; · iexists _; iexact Hu
    iexists W'
    isplitr
    · ipureintro
      intro p hp
      rcases hW' hp with h | ⟨w, s, rfl⟩
      · exact .inl h
      · exact .inr rfl
    iexact HO
  isplitl [Hb]; · iexact Hb
  isplitl [Hu Hp HO]
  · iapply (show iprop(StableHlo.held (d.tc : Thread nD τ) (Pipeline.ucRefs τ sig) (Vb d) ∗ (∃ r, prngReg d r)
        ∗ ∃ W' : Waits sig (HIx 1), ⌜(W' : Set (SemLoc sig × HIx 1)) ⊆ (W : Set (SemLoc sig × HIx 1))⌝ ∗ owes (d.tc : Thread nD τ) (0 : CellTallies nD τ sig (HIx 1)) W')
      ⊢ (region Vb (W : Set (SemLoc sig × HIx 1)) (K (F := F)).L (K (F := F)).lev).pre d from Entails.of_eq rfl)
    isplitl [Hu]; · iexact Hu
    isplitl [Hp]; · iexists _; iexact Hp
    iexists W
    isplitr; · ipureintro; exact subset_rfl
    iexact HO
  isplitl [Hlv]; · iexact Hlv
  isplitl [Hc]; · iexact Hc
  iexact Ht

/-- The host operations before the SparseCore call, from the launch's arrays. -/
theorem seqA_step (d : Dev nD) {β : Type} (k : PUnit → Prog (TpuEff nD τ sig (Elt F) (SparseCore.Sig (ΛP (F := F)) 1) .tc) β) {Q : β → sProp 𝕄} :
    iprop(boundary (d.tc : Thread nD τ) ∗ (StableHlo.held (d.tc : Thread nD τ) (Pipeline.ucRefs τ sig) (VL m d) : sProp 𝕄))
      ⊢ iprop(((boundary (d.tc : Thread nD τ) ∗ (StableHlo.held (d.tc : Thread nD τ) (Pipeline.ucRefs τ sig) (VA m d) : sProp 𝕄))
          -∗ wp frame (wpE ((K (F := F)).defs (D (F := F))) 𝒱 d.tc none) Set.univ (k ⟨⟩) Q)
        -∗ wp frame (wpE ((K (F := F)).defs (D (F := F))) 𝒱 d.tc none) Set.univ (StableHlo.seq opsA >>= k) Q) :=
  StableHlo.wp_seq 𝒱 none Set.univ d (Pipeline.ucRefs τ sig) k opsA opsA_bufs opsA_fresh (VL m d)

/-- Those after it. -/
theorem seqB_step (d : Dev nD) {β : Type} (k : PUnit → Prog (TpuEff nD τ sig (Elt F) (SparseCore.Sig (ΛP (F := F)) 1) .tc) β) {Q : β → sProp 𝕄} :
    iprop(boundary (d.tc : Thread nD τ) ∗ (StableHlo.held (d.tc : Thread nD τ) (Pipeline.ucRefs τ sig) (VG m d) : sProp 𝕄))
      ⊢ iprop(((boundary (d.tc : Thread nD τ) ∗ (StableHlo.held (d.tc : Thread nD τ) (Pipeline.ucRefs τ sig) (VB m d) : sProp 𝕄))
          -∗ wp frame (wpE ((K (F := F)).defs (D (F := F))) 𝒱 d.tc none) Set.univ (k ⟨⟩) Q)
        -∗ wp frame (wpE ((K (F := F)).defs (D (F := F))) 𝒱 d.tc none) Set.univ (StableHlo.seq opsB >>= k) Q) :=
  StableHlo.wp_seq 𝒱 none Set.univ d (Pipeline.ucRefs τ sig) k opsB opsB_bufs opsB_fresh (VG m d)

theorem held_VA (d : Dev nD) :
    (StableHlo.held (d.tc : Thread nD τ) (Pipeline.ucRefs τ sig) (VA m d) : sProp 𝕄)
      = iprop(((tLoc d ↦{fullShare} tab m d) ∗ (iLoc d ↦{fullShare} nums m d) ∗ (oLoc d ↦{fullShare} VA m d (Proc.devRef .tc main_v8)))
        ∗ StableHlo.held (d.tc : Thread nD τ) (Pipeline.ucRefs τ sig \ callRefs) (VA m d)) := held_call (VA m d) d

/-- The SparseCore call: the device's arrays before and after. -/
theorem call_step (κ : GSem nD τ sig → ℕ) (d : Dev nD) {Q : PUnit → sProp 𝕄} :
    iprop((K (F := F)).ctx EH (P m) κ ∗ (K (F := F)).tcSt EH d 0 ∗ StableHlo.held (d.tc : Thread nD τ) (Pipeline.ucRefs τ sig) (VA m d)
        ∗ (((K (F := F)).tcSt EH d 1 ∗ StableHlo.held (d.tc : Thread nD τ) (Pipeline.ucRefs τ sig) (VG m d)) -∗ Q ⟨⟩))
      ⊢ wp frame (wpE ((K (F := F)).defs (D (F := F))) 𝒱 (SparseCore.T d) none) Set.univ ((K (F := F)).run d 0) Q := by
  rw [held_VA, held_VG]
  refine BI.Entails.trans ?_ ((K (F := F)).wp_run (D (F := F)) 𝒱 (EH := EH) (P := P m) κ d 0)
  rw [st_all, dn_all]
  change (_ : sProp 𝕄) ⊢ (_ : sProp 𝕄)
  iintro ⟨#Hctx, Hst, ⟨Hcall, Hu⟩, Hk⟩
  isplitr; · iexact Hctx
  isplitl [Hst]; · iexact Hst
  isplitl [Hcall]; · iexact Hcall
  iintro ⟨Hst, Hdn⟩
  iapply Hk
  isplitl [Hst]; · iexact Hst
  isplitl [Hdn] <;> iassumption

theorem wbelow (d : Dev nD) {W W' : Waits sig (HIx 1)} {b : ℕ} (hW : (K (F := F)).WBelow (SparseCore.T d) W b)
    (h : ∀ p ∈ W', p ∈ W ∨ p.2 = none) : (K (F := F)).WBelow (SparseCore.T d) W' b := by
  intro p hp
  rcases h p hp with h | h
  · exact hW p h
  · rw [h, SparseCore.Cfg.lev_none]; exact Nat.zero_le _

/-- @main on device `d`'s TensorCore: the host operations, the SparseCore call from its three arrays, the host operations,
    the pipelined call. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [main_eq, bufs_VL]
  iintro ⟨#Hctx, Hst, ⟨Hb, Hu, Hts, Hp⟩, HG⟩
  iapply (seqA_step m d) $$ [Hb Hu]
  · isplitl [Hb] <;> iassumption
  iintro ⟨Hb, Hu⟩
  rw [wp_bind]
  iapply (call_step m κ d) $$ [Hst Hu Hb Hts Hp HG]
  isplitr; · iexact Hctx
  isplitl [Hst]; · iexact Hst
  isplitl [Hu]; · iexact Hu
  iintro ⟨Hst, Hu⟩
  iapply (seqB_step m d) $$ [Hb Hu]
  · isplitl [Hb] <;> iassumption
  iintro ⟨Hb, Hu⟩
  unfold SparseCore.Cfg.tcSt
  icases Hst with ⟨⟨%W, %hW, HO⟩, Hst⟩
  rw [(K (F := F)).Otc_end d (n := 1) le_rfl]
  ihave Hlv := (SparseCore.Cfg.ctx_levAts (K := K (F := F)) κ) $$ Hctx
  iapply (region_step ρ (VB m) d W) $$ [Hb Hu HO Hlv Hst Hts Hp HG]
  isplitl [Hb]; · iexact Hb
  isplitl [Hu]; · iexact Hu
  isplitl [Hp]; · iexact Hp
  isplitl [HO]; · iexact HO
  isplitl [Hlv]; · iexact Hlv
  isplitl [HG]; · iexact HG
  iintro ⟨Hb, Hu, %W', %hW', HO⟩
  isplitl [HO Hst]
  · isplitl [HO]
    · iexists W'; isplitr; · ipureintro; exact wbelow d hW hW'
      iexact HO
    iexact Hst
  isplitl [Hu]; · iexact Hu
  isplitl [Hb] <;> iassumption

/-! ## The program's run -/

/-- A final state on device `d`: its arrays hold what the pipelined call left. -/
def fq (d : Dev nD) (s' : Phys nD τ sig (Elt F)) : Prop :=
  ∃ Rc : Set (SemLoc sig × HIx 1), ∀ b : Ref sig .tc, b.isScoped = false →
    s'.mem.mem ((d.tc : Thread nD τ).loc b) = Vout (VB m) Rc d (Proc.devRef .tc b)

theorem hfin (d : Dev nD) (s' : Phys nD τ sig (Elt F)) : iprop(FIN m d ∗ SI s') ⊢ (⌜fq m d s'⌝ : sProp 𝕄) := by
  unfold FIN StableHlo.held
  iintro ⟨⟨%Rc, Hu⟩, HSI⟩
  ihave H := (pointsTo_read_all (Pipeline.ucRefs τ sig) (fun b => ((d, b) : Loc nD τ sig)) (Vout (VB m) Rc d) s') $$ [Hu HSI]
  · isplitl [Hu] <;> iassumption
  icases H with ⟨%h, -⟩
  ipureintro
  exact ⟨Rc, fun b hb => h _ (Pipeline.devRef_mem_ucRefs hb)⟩

/-- Every weakly fair execution terminates, every semaphore at zero, the arguments as they were, and the result array at
    what the pipelined call leaves over the arrays `VB`. -/
def QC (r : PUnit × MemSt nD τ sig (Elt F)) : Prop :=
  (∀ d : Dev nD, ∃ Rc : Set (SemLoc sig × HIx 1), ∀ b : Ref sig .tc, b.isScoped = false →
    r.2.mem ((d.tc : Thread nD τ).loc b) = Vout (VB m) Rc d (Proc.devRef .tc b)) ∧ r.2.sem = fun _ => 0

theorem run_main [∀ e, Nonempty (Elt F e)] (hI : ∀ d, InTable (F := F) (nums m d)) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hI)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.KernelIdeal.Pf

end
-- ==== Proof.KernelIdeal.Frame.lean ====
/- What the index range gives: the row numbers name rows of the table, so the run needs nothing else; and the run with
   its values dropped, the frame. -/
module

public import proofs.«01_k».proof.Proof.KernelIdeal.Launch
public import Idealize.ShloMosaic.Lib.Pipeline.Value

@[expose] public section

noncomputable section

namespace Cert.KernelIdeal.Pf

open Cert.KernelIdeal Cert.KernelIdeal.Gen
open Idealize.ShloMosaic Idealize.ShloMosaic.ValueIdx
open Idealize.ShloMosaic.TcCoe
open Idealize.SL.Sem

variable {F : FTy → Type} [FloatOps F]
variable (m : (ℓ : Loc nD τ sig) → Buf (Elt F) ℓ) (ρ : Dev nD → PrngReg)

/-- The indices on device `d`. -/
def idx (d : Dev nD) : Vec F S4096x26 .i32 := m ((d.tc : Thread nD τ).loc main_arg1)

/-- Every index names one of its feature's thousand rows. -/
def Small : Prop := ∀ (d : Dev nD) (j : S4096x26.Idx), (idx m d j : BitVec 32).toNat < 1000

/-- The row numbers before the reshape: each index moved to its feature's thousand rows. -/
def moved (d : Dev nD) : Vec F S4096x26 .i32 := addi (idx m d)
  (broadcastInDim S4096x26 ![0, 1] bcast_S1x26_S4096x26_0_1 (broadcastInDim S1x26 ![1] bcast_S26_S1x26_1
    (muli (iotaInDim S26 32 0 : Vec F S26 .i32) (broadcastInDim S26 ![] bcast_S_S26 (constantI S_ 32 1000#32 : Vec F S_ .i32)))))

theorem moved_toNat (d : Dev nD) (b : Fin 4096) (f : Fin 26) (h : (idx m d (ix2 b f) : BitVec 32).toNat < 1000) :
    (moved m d (ix2 b f) : BitVec 32).toNat = (idx m d (ix2 b f) : BitVec 32).toNat + 1000 * f.val := by
  have e : (moved m d (ix2 b f) : BitVec 32) = (idx m d (ix2 b f) : BitVec 32) + BitVec.ofNat 32 f.val * 1000#32 := rfl
  have hf := f.isLt
  rw [e, BitVec.toNat_add, BitVec.toNat_mul, BitVec.toNat_ofNat, BitVec.toNat_ofNat]
  omega

/-- A row number is the moved index at the same place in row-major order. -/
theorem nums_apply (d : Dev nD) (j : S32x26x128.Idx) (b : Fin 4096) (f : Fin 26)
    (h : b.val * 26 + f.val = ((j 0).val * 26 + (j 1).val) * 128 + (j 2).val) : nums m d j = moved m d (ix2 b f) := by
  rw [nums_eq]
  exact shapeCast_apply (moved m d) _ _ _ ((Shape.rowMajor_val_two (d := ![4096, 26]) (ix2 b f)).trans
    (h.trans (Shape.rowMajor_val_three (d := ![32, 26, 128]) j).symm))

theorem inTable (h : Small m) (d : Dev nD) : InTable (F := F) (nums m d) := by
  intro j
  have h0 : (j 0).val < 32 := (j 0).isLt
  have h1 : (j 1).val < 26 := (j 1).isLt
  have h2 : (j 2).val < 128 := (j 2).isLt
  rw [nums_apply m d j ⟨(((j 0).val * 26 + (j 1).val) * 128 + (j 2).val) / 26, by omega⟩
    ⟨(((j 0).val * 26 + (j 1).val) * 128 + (j 2).val) % 26, Nat.mod_lt _ (by norm_num)⟩ (by show _ / 26 * 26 + _ % 26 = _; omega)]
  rw [moved_toNat _ _ _ _ (h d _)]
  have := h d (ix2 (⟨(((j 0).val * 26 + (j 1).val) * 128 + (j 2).val) / 26, by omega⟩ : Fin 4096)
    (⟨(((j 0).val * 26 + (j 1).val) * 128 + (j 2).val) % 26, Nat.mod_lt _ (by norm_num)⟩ : Fin 26))
  have : (((j 0).val * 26 + (j 1).val) * 128 + (j 2).val) % 26 < 26 := Nat.mod_lt _ (by norm_num)
  show _ + 1000 * ((((j 0).val * 26 + (j 1).val) * 128 + (j 2).val) % 26) < _
  omega

/-- The arguments as they were. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)

theorem kept {r : PUnit × MemSt nD τ sig (Elt F)} (h : QC m r) (c : Dev nD) : Kept m r c := by
  obtain ⟨Rc, hr⟩ := h.1 c
  refine ⟨?_, ?_, ?_, ?_, ?_, ?_, ?_, ?_, ?_, ?_, ?_⟩ <;>
    exact (hr _ rfl).trans ((Vout_other (VB m) Rc c _ (by decide)).trans (VB_arg m c _ (by decide) (by decide) (by decide)))

/-- From any memory whose indices are in range: the program terminates, its arguments end unchanged and every semaphore at
    zero. -/
theorem frame [∀ e, Nonempty (Elt F e)] (h : Small m) :
    θ_run (defs (F := F)) (threads (F := F)) ⟨m, fun _ => 0, ρ⟩ (fun r => (∀ c, Kept m r c) ∧ r.2.sem = fun _ => 0) :=
  (θ_run _ _ _).mono (fun _ hr => ⟨fun c => kept m hr c, hr.2⟩) (run_main m ρ (inTable m h))

end Cert.KernelIdeal.Pf

end
-- ==== Proof.Layers.lean ====
/- The perceptron's layers over extended reals, shared by the two programs: a layer is a product, a bias and a maximum with
   zero; each row of its result depends on the same row of its input alone. -/
module

public import Idealize.ShloMosaic.PureOps.Ideal
public import Idealize.ShloMosaic.PureOps.Ideal.Laws
public import Idealize.ShloMosaic.Lib.Pointwise.IndexBridge

@[expose] public section

noncomputable section

namespace Cert.Pf

open Idealize.ShloMosaic

/-- The entries of a matrix by row and column. -/
abbrev ent {n k : ℕ} {α : Type} (x : (⟨2, ![n, k]⟩ : Shape).Idx → α) : Fin n → Fin k → α := fun i j => x (ix2 i j)

/-- Rows `x` times `w`, plus the bias, and the maximum with zero. -/
def lay {M K N : ℕ} (x : Fin M → Fin K → EReal) (w : Fin K → Fin N → EReal) (b : Fin N → EReal) : Fin M → Fin N → EReal :=
  fun i k => max ((∑ c, x i c * w c k) + b k) 0

theorem lay_row {M M' K N : ℕ} {x : Fin M → Fin K → EReal} {x' : Fin M' → Fin K → EReal} {i : Fin M} {i' : Fin M'} (h : x i = x' i')
    (w : Fin K → Fin N → EReal) (b : Fin N → EReal) : lay x w b i = lay x' w b i' := by
  unfold lay; rw [h]

/-- The whole network on rows `e` (the looked-up embeddings) and `x` (the wide features). -/
def net {M K A B C D : ℕ} (x : Fin M → Fin D → EReal) (e : Fin M → Fin K → EReal)
    (w1 : Fin K → Fin A → EReal) (b1 : Fin A → EReal) (w2 : Fin A → Fin B → EReal) (b2 : Fin B → EReal)
    (w3 : Fin B → Fin C → EReal) (b3 : Fin C → EReal) (wx : Fin D → EReal) (wh : Fin C → EReal) (bo : EReal) : Fin M → EReal :=
  fun i => ((∑ c, x i c * wx c) + ∑ c, lay (lay (lay e w1 b1) w2 b2) w3 b3 i c * wh c) + bo

/-- A row of the result depends on the same row of the inputs alone. -/
theorem net_row {M M' K A B C D : ℕ} {x : Fin M → Fin D → EReal} {x' : Fin M' → Fin D → EReal} {e : Fin M → Fin K → EReal} {e' : Fin M' → Fin K → EReal}
    {i : Fin M} {i' : Fin M'} (hx : x i = x' i') (he : e i = e' i')
    (w1 : Fin K → Fin A → EReal) (b1 : Fin A → EReal) (w2 : Fin A → Fin B → EReal) (b2 : Fin B → EReal)
    (w3 : Fin B → Fin C → EReal) (b3 : Fin C → EReal) (wx : Fin D → EReal) (wh : Fin C → EReal) (bo : EReal) :
    net x e w1 b1 w2 b2 w3 b3 wx wh bo i = net x' e' w1 b1 w2 b2 w3 b3 wx wh bo i' := by
  unfold net
  rw [hx, lay_row (lay_row (lay_row he w1 b1) w2 b2) w3 b3]

/-- The looked-up embeddings, a row per batch entry: feature `c / 128`'s vector at the entry's index of that feature. -/
def looked (T : Fin 26 → Fin 1000 → Fin 128 → EReal) (I : Fin 4096 → Fin 26 → BitVec 32) : Fin 4096 → Fin 3328 → EReal := fun b c =>
  T ⟨c.val / 128, by omega⟩ ⟨(I b ⟨c.val / 128, by omega⟩).toNat % 1000, Nat.mod_lt _ (by norm_num)⟩ ⟨c.val % 128, Nat.mod_lt _ (by norm_num)⟩

end Cert.Pf

end
-- ==== Proof.KernelIdeal.Value.lean ====
/- The pipelined call's block at the exact instance: each row is the network of the same row of the blocks it reads. -/
module

public import proofs.«01_k».proof.Proof.KernelIdeal.Frame
public import proofs.«01_k».proof.Proof.Layers
public import Idealize.ShloMosaic.Lib.Pointwise

@[expose] public section

noncomputable section

namespace Cert.KernelIdeal.Pf

open Cert.KernelIdeal Cert.KernelIdeal.Gen Cert.Pf
open Idealize.ShloMosaic
open Idealize.ShloMosaic.TcCoe

/-! A layer's vector operations at an entry: the format changes and the same-shape reshapes are the identity. -/

theorem layer1 (x : FVec Ideal S512x3328 .f32) (w : FVec Ideal S3328x1024 .bf16) (b : FVec Ideal S1x1024 .f32) :
    ent (maximumf (addf (matmul dot_S512x3328_S3328x1024_S512x1024_1_0_0_1_n_n none (truncf .bf16 x bitsLt_bf16_f32) (shapeCast S3328x1024 w shapeCasts_S3328x1024_S3328x1024)
        (constant (F := Ideal) S512x1024 .f32 0x00000000#32) : FVec Ideal S512x1024 .f32)
      (broadcastTo S512x1024 (shapeCast S1x1024 b shapeCasts_S1x1024_S1x1024) broadcasts_S1x1024_S512x1024)) (broadcast S512x1024 (FloatOps.ofBits .f32 0x00000000#32)))
      = lay (ent x) (ent w) (ent b 0) := by
  funext i k
  unfold lay ent
  pointwise

theorem layer2 (x : FVec Ideal S512x1024 .f32) (w : FVec Ideal S1024x512 .bf16) (b : FVec Ideal S1x512 .f32) :
    ent (maximumf (addf (matmul dot_S512x1024_S1024x512_S512x512_1_0_0_1_n_n none (truncf .bf16 x bitsLt_bf16_f32) (shapeCast S1024x512 w shapeCasts_S1024x512_S1024x512)
        (constant (F := Ideal) S512x512 .f32 0x00000000#32) : FVec Ideal S512x512 .f32)
      (broadcastTo S512x512 (shapeCast S1x512 b shapeCasts_S1x512_S1x512) broadcasts_S1x512_S512x512)) (broadcast S512x512 (FloatOps.ofBits .f32 0x00000000#32)))
      = lay (ent x) (ent w) (ent b 0) := by
  funext i k
  unfold lay ent
  pointwise

theorem layer3 (x : FVec Ideal S512x512 .f32) (w : FVec Ideal S512x256 .bf16) (b : FVec Ideal S1x256 .f32) :
    ent (maximumf (addf (matmul dot_S512x512_S512x256_S512x256_1_0_0_1_n_n none (truncf .bf16 x bitsLt_bf16_f32) (shapeCast S512x256 w shapeCasts_S512x256_S512x256)
        (constant (F := Ideal) S512x256 .f32 0x00000000#32) : FVec Ideal S512x256 .f32)
      (broadcastTo S512x256 (shapeCast S1x256 b shapeCasts_S1x256_S1x256) broadcasts_S1x256_S512x256)) (broadcast S512x256 (FloatOps.ofBits .f32 0x00000000#32)))
      = lay (ent x) (ent w) (ent b 0) := by
  funext i k
  unfold lay ent
  pointwise

/-- The deep layers' payload. -/
theorem deep_eq (v0 : Vec Ideal S512x3328 .f32) (v3 : Vec Ideal S3328x1024 .bf16) (v6 : Vec Ideal S1x1024 .f32) (v13 : Vec Ideal S1024x512 .bf16)
    (v16 : Vec Ideal S1x512 .f32) (v23 : Vec Ideal S512x256 .bf16) (v26 : Vec Ideal S1x256 .f32) :
    ent (k1_pay2 v0 v3 v6 v13 v16 v23 v26)
      = lay (lay (lay (ent v0) (ent v3) (ent v6 0)) (ent v13) (ent v16 0)) (ent v23) (ent v26 0) := by
  have e0 : (shapeCast S512x3328 v0 shapeCasts_S512x3328_S512x3328 : Vec Ideal S512x3328 .f32) = v0 := by funext j; pointwise
  unfold k1_pay2
  simp only [e0]
  rw [layer3, layer2, layer1]

/-- The value the body stores: the network of its blocks, row by row. -/
theorem outPay_eq (x0 : Vec Ideal S512x1024 .f32) (x1 : Vec Ideal S512x3328 .f32) (x2 : Vec Ideal S3328x1024 .bf16) (x3 : Vec Ideal S1x1024 .f32)
    (x4 : Vec Ideal S1024x512 .bf16) (x5 : Vec Ideal S1x512 .f32) (x6 : Vec Ideal S512x256 .bf16) (x7 : Vec Ideal S1x256 .f32)
    (x8 : Vec Ideal S1024x1 .f32) (x9 : Vec Ideal S256x1 .f32) (x10 : Vec Ideal S1x1 .f32) (i : Fin 512) :
    k1_pay1 (k1_pay2 x1 x2 x3 x4 x5 x6 x7) x0 (k1_pay3 x8) x9 x10 (ix2 i 0)
      = net (ent x0) (ent x1) (ent x2) (ent x3 0) (ent x4) (ent x5 0) (ent x6) (ent x7 0) (fun c => ent x8 c 0) (fun c => ent x9 c 0) (ent x10 0 0) i := by
  unfold net
  rw [← deep_eq]
  generalize k1_pay2 x1 x2 x3 x4 x5 x6 x7 = h
  unfold k1_pay1 k1_pay3 ent
  pointwise

theorem outBlk_eq (x0 : Vec Ideal S512x1024 .f32) (x1 : Vec Ideal S512x3328 .f32) (x2 : Vec Ideal S3328x1024 .bf16) (x3 : Vec Ideal S1x1024 .f32)
    (x4 : Vec Ideal S1024x512 .bf16) (x5 : Vec Ideal S1x512 .f32) (x6 : Vec Ideal S512x256 .bf16) (x7 : Vec Ideal S1x256 .f32)
    (x8 : Vec Ideal S1024x1 .f32) (x9 : Vec Ideal S256x1 .f32) (x10 : Vec Ideal S1x1 .f32) (i : Fin 512) :
    outBlk x0 x1 x2 x3 x4 x5 x6 x7 x8 x9 x10 (ix2 i 0)
      = net (ent x0) (ent x1) (ent x2) (ent x3 0) (ent x4) (ent x5 0) (ent x6) (ent x7 0) (fun c => ent x8 c 0) (fun c => ent x9 c 0) (ent x10 0 0) i := by
  have e : outBlk x0 x1 x2 x3 x4 x5 x6 x7 x8 x9 x10 = k1_pay1 (k1_pay2 x1 x2 x3 x4 x5 x6 x7) x0 (k1_pay3 x8) x9 x10 := by
    unfold outBlk outPay
    have z : (![0, 0] : Fin 2 → ℕ) = fun _ => 0 := by decide
    refine (View.canon_unit_zero z _ _).trans ?_
    rw [View.ld_unit_zero (S := S512x1024) z, View.ld_unit_zero (S := S512x3328) z, View.ld_unit_zero (S := S3328x1024) z, View.ld_unit_zero (S := S1x1024) z,
      View.ld_unit_zero (S := S1024x512) z, View.ld_unit_zero (S := S1x512) z, View.ld_unit_zero (S := S512x256) z, View.ld_unit_zero (S := S1x256) z,
      View.ld_unit_zero (S := S1024x1) z, View.ld_unit_zero (S := S256x1) z, View.ld_unit_zero (S := S1x1) z]
  rw [e, outPay_eq]

end Cert.KernelIdeal.Pf

end
-- ==== Proof.KernelIdeal.Blocks.lean ====
/- Where the pipelined call's blocks lie in their arrays: block `t` of the batched windows is rows `512·t … 512·t + 511`;
   the other windows' one block is the whole array. -/
module

public import proofs.«01_k».proof.Proof.KernelIdeal.Value
public import Idealize.ShloMosaic.Lib.Pipeline.ValueKit

@[expose] public section

noncomputable section

namespace Cert.KernelIdeal.Pf

open Cert.KernelIdeal Cert.KernelIdeal.Gen Cert.Pf
open Idealize.ShloMosaic
open Idealize.ShloMosaic.TcCoe

variable {F : FTy → Type} [FloatOps F]
variable (V : Dev nD → Valuation τ sig (Elt F)) (c : Dev nD) (t : Fin cfg1.N)

/-- Row `i` of block `t`. -/
def rowAt (t : Fin cfg1.N) (i : Fin 512) : Fin 4096 := ⟨512 * t.val + i.val, by have h : t.val < 8 := t.isLt; omega⟩

/-! The block indices: point `t` reads and writes block `t` of the batched windows, block 0 of the others. -/

theorem at_0 : ∀ t : Fin grid1.N, win1_0.index t = ![t.val, 0] := by decide +kernel
theorem at_1 : ∀ t : Fin grid1.N, win1_1.index t = ![t.val, 0] := by decide +kernel
theorem at_11 : ∀ t : Fin grid1.N, win1_11.index t = ![t.val, 0] := by decide +kernel
theorem at_2 : ∀ t : Fin grid1.N, win1_2.index t = ![0, 0] := by decide +kernel
theorem at_3 : ∀ t : Fin grid1.N, win1_3.index t = ![0, 0] := by decide +kernel
theorem at_4 : ∀ t : Fin grid1.N, win1_4.index t = ![0, 0] := by decide +kernel
theorem at_5 : ∀ t : Fin grid1.N, win1_5.index t = ![0, 0] := by decide +kernel
theorem at_6 : ∀ t : Fin grid1.N, win1_6.index t = ![0, 0] := by decide +kernel
theorem at_7 : ∀ t : Fin grid1.N, win1_7.index t = ![0, 0] := by decide +kernel
theorem at_8 : ∀ t : Fin grid1.N, win1_8.index t = ![0, 0] := by decide +kernel
theorem at_9 : ∀ t : Fin grid1.N, win1_9.index t = ![0, 0] := by decide +kernel
theorem at_10 : ∀ t : Fin grid1.N, win1_10.index t = ![0, 0] := by decide +kernel

/-! A batched window's block at an entry. -/

theorem iblk_0 (i : Fin 512) (k : Fin 1024) :
    iblk V c 0 t (ix2 i k) = V c (Proc.devRef .tc main_arg0) (ix2 (rowAt t i) k) := by
  blk_simp [iblk, at_0]
  refine congrArg (V c (Proc.devRef .tc main_arg0)) ?_
  blk_ext [at_0, rowAt]

theorem iblk_1 (i : Fin 512) (k : Fin 3328) :
    iblk V c 1 t (ix2 i k) = V c (Proc.devRef .tc main_v9) (ix2 (rowAt t i) k) := by
  blk_simp [iblk, at_1]
  refine congrArg (V c (Proc.devRef .tc main_v9)) ?_
  blk_ext [at_1, rowAt]

theorem emb_11 (i : Fin 512) : ((cfg1.win 11).blk t).view.emb (ix2 i 0) = ix2 (rowAt t i) 0 := by
  blk_ext [at_11, rowAt]

/-! The other windows' blocks. -/

theorem iblk_2 : iblk V c 2 t = V c (Proc.devRef .tc main_v10) := by
  funext x
  blk_simp [iblk, at_2]
  refine congrArg (V c (Proc.devRef .tc main_v10)) ?_
  blk_ext [at_2]

theorem iblk_3 : iblk V c 3 t = V c (Proc.devRef .tc main_v11) := by
  funext x
  blk_simp [iblk, at_3]
  refine congrArg (V c (Proc.devRef .tc main_v11)) ?_
  blk_ext [at_3]

theorem iblk_4 : iblk V c 4 t = V c (Proc.devRef .tc main_v12) := by
  funext x
  blk_simp [iblk, at_4]
  refine congrArg (V c (Proc.devRef .tc main_v12)) ?_
  blk_ext [at_4]

theorem iblk_5 : iblk V c 5 t = V c (Proc.devRef .tc main_v13) := by
  funext x
  blk_simp [iblk, at_5]
  refine congrArg (V c (Proc.devRef .tc main_v13)) ?_
  blk_ext [at_5]

theorem iblk_6 : iblk V c 6 t = V c (Proc.devRef .tc main_v14) := by
  funext x
  blk_simp [iblk, at_6]
  refine congrArg (V c (Proc.devRef .tc main_v14)) ?_
  blk_ext [at_6]

theorem iblk_7 : iblk V c 7 t = V c (Proc.devRef .tc main_v15) := by
  funext x
  blk_simp [iblk, at_7]
  refine congrArg (V c (Proc.devRef .tc main_v15)) ?_
  blk_ext [at_7]

theorem iblk_8 : iblk V c 8 t = V c (Proc.devRef .tc main_v16) := by
  funext x
  blk_simp [iblk, at_8]
  refine congrArg (V c (Proc.devRef .tc main_v16)) ?_
  blk_ext [at_8]

theorem iblk_9 : iblk V c 9 t = V c (Proc.devRef .tc main_v17) := by
  funext x
  blk_simp [iblk, at_9]
  refine congrArg (V c (Proc.devRef .tc main_v17)) ?_
  blk_ext [at_9]

theorem iblk_10 : iblk V c 10 t = V c (Proc.devRef .tc main_v18) := by
  funext x
  blk_simp [iblk, at_10]
  refine congrArg (V c (Proc.devRef .tc main_v18)) ?_
  blk_ext [at_10]

end Cert.KernelIdeal.Pf

end
-- ==== Proof.KernelIdeal.Lookup.lean ====
/- The embeddings the pipelined call finds, at the exact instance: entry `(b, c)` is feature `c / 128`'s vector at batch entry
   `b`'s index of that feature. -/
module

public import proofs.«01_k».proof.Proof.KernelIdeal.Frame
public import proofs.«01_k».proof.Proof.Layers

@[expose] public section

noncomputable section

namespace Cert.KernelIdeal.Pf

open Cert.KernelIdeal Cert.KernelIdeal.Gen Cert.Pf
open Idealize.ShloMosaic hiding ix1 ix2 ix3
open Idealize.ShloMosaic.ValueIdx
open Idealize.ShloMosaic.TcCoe

variable (m : (ℓ : Loc nD τ sig) → Buf (Elt Ideal) ℓ) (d : Dev nD)

theorem v9_eq : VB m d (Proc.devRef .tc main_v9) = shapeCast S4096x3328 (gout (tab m d) (nums m d)) shapeCasts_S832x128x128_S4096x3328 := by
  unfold VB opsB
  after_reads_simp
  unfold VG
  rw [Function.update_self]
  rfl

/-- A row of the flattened table. -/
theorem tab_at (r : Fin 26000) (f : Fin 26) (x : Fin 1000) (k : Fin 128) (e : r.val = f.val * 1000 + x.val) :
    tab m d (ix2 r k) = (m ((d.tc : Thread nD τ).loc main_arg2) : Vec Ideal S26x1000x128 .f32) (ix3 f x k) := by
  rw [tab_eq]
  exact shapeCast_apply (m ((d.tc : Thread nD τ).loc main_arg2)) _ _ _ ((Shape.rowMajor_val_three (d := ![26, 1000, 128]) (ix3 f x k)).trans
    ((by show (f.val * 1000 + x.val) * 128 + k.val = r.val * 128 + k.val; rw [e] : _ = _).trans (Shape.rowMajor_val_two (d := ![26000, 128]) (ix2 r k)).symm))

theorem v9_at (h : Small m) (b : Fin 4096) (c : Fin 3328) :
    (VB m d (Proc.devRef .tc main_v9) : Vec Ideal S4096x3328 .f32) (ix2 b c)
      = looked (fun f r k => (m ((d.tc : Thread nD τ).loc main_arg2) : Vec Ideal S26x1000x128 .f32) (ix3 f r k)) (fun b f => idx m d (ix2 b f)) b c := by
  have hb := b.isLt
  have hc := c.isLt
  have hf : c.val / 128 < 26 := by omega
  have hx := h d (ix2 b (⟨c.val / 128, hf⟩ : Fin 26))
  have hm := moved_toNat m d b ⟨c.val / 128, hf⟩ hx
  rw [v9_eq]
  refine (shapeCast_apply (gout (tab m d) (nums m d)) _ _ (ix3 (⟨(b.val * 26 + c.val / 128) / 128, by omega⟩ : Fin 832)
    (⟨(b.val * 26 + c.val / 128) % 128, by omega⟩ : Fin 128) (⟨c.val % 128, by omega⟩ : Fin 128))
    ((Shape.rowMajor_val_three (d := ![832, 128, 128]) _).trans (Eq.trans ?_ (Shape.rowMajor_val_two (d := ![4096, 3328]) (ix2 b c)).symm))).trans ?_
  · show ((b.val * 26 + c.val / 128) / 128 * 128 + (b.val * 26 + c.val / 128) % 128) * 128 + c.val % 128 = b.val * 3328 + c.val
    omega
  unfold gout
  rw [nums_apply m d _ b ⟨c.val / 128, hf⟩]
  · refine (tab_at m d _ ⟨c.val / 128, hf⟩ ⟨(idx m d (ix2 b (⟨c.val / 128, hf⟩ : Fin 26)) : BitVec 32).toNat, hx⟩ _ ?_).trans ?_
    · have h26 : (moved m d (ix2 b (⟨c.val / 128, hf⟩ : Fin 26)) : BitVec 32).toNat < 26000 := by rw [hm]; show _ + 1000 * (c.val / 128) < _; omega
      rw [rowOf_val h26]
      exact hm.trans (Eq.trans (Nat.add_comm _ _) (congrArg (· + _) (Nat.mul_comm _ _)))
    · unfold looked
      congr 2
      exact Fin.ext (Nat.mod_eq_of_lt hx).symm
  · show b.val * 26 + c.val / 128 = ((b.val * 26 + c.val / 128) / 128 / 26 * 26 + (b.val * 26 + c.val / 128) / 128 % 26) * 128 + (b.val * 26 + c.val / 128) % 128
    omega

end Cert.KernelIdeal.Pf

end
-- ==== Proof.KernelIdeal.Result.lean ====
/- The result array at the exact instance: row by row, the network of the arrays the pipelined call finds; and those arrays
   as functions of the arguments. -/
module

public import proofs.«01_k».proof.Proof.KernelIdeal.Blocks
public import proofs.«01_k».proof.Proof.KernelIdeal.Lookup

@[expose] public section

noncomputable section

namespace Cert.KernelIdeal.Pf

open Cert.KernelIdeal Cert.KernelIdeal.Gen Cert.Pf
open Idealize.ShloMosaic
open Idealize.ShloMosaic.TcCoe
open Idealize.ShloMosaic.SparseCore.Cfg (HIx)

section
variable (V : Dev nD → Valuation τ sig (Elt Ideal)) (Rc : Set (SemLoc sig × HIx 1)) (c : Dev nD)

/-- The network over the arrays `V`. -/
def netOf : Fin 4096 → EReal :=
  net (ent (V c (Proc.devRef .tc main_arg0) : Vec Ideal S4096x1024 .f32)) (ent (V c (Proc.devRef .tc main_v9) : Vec Ideal S4096x3328 .f32))
    (ent (V c (Proc.devRef .tc main_v10) : Vec Ideal S3328x1024 .bf16)) (ent (V c (Proc.devRef .tc main_v11) : Vec Ideal S1x1024 .f32) 0)
    (ent (V c (Proc.devRef .tc main_v12) : Vec Ideal S1024x512 .bf16)) (ent (V c (Proc.devRef .tc main_v13) : Vec Ideal S1x512 .f32) 0)
    (ent (V c (Proc.devRef .tc main_v14) : Vec Ideal S512x256 .bf16)) (ent (V c (Proc.devRef .tc main_v15) : Vec Ideal S1x256 .f32) 0)
    (fun k => ent (V c (Proc.devRef .tc main_v16) : Vec Ideal S1024x1 .f32) k 0) (fun k => ent (V c (Proc.devRef .tc main_v17) : Vec Ideal S256x1 .f32) k 0)
    (ent (V c (Proc.devRef .tc main_v18) : Vec Ideal S1x1 .f32) 0 0)

theorem result_at (t : Fin cfg1.N) (i : Fin 512) :
    (Vout V Rc c (Proc.devRef .tc main_v19) : Vec Ideal S4096x1 .f32) (ix2 (rowAt t i) 0) = netOf V c (rowAt t i) := by
  have h := congrFun (result_blk V Rc c t) (ix2 i 0)
  blk_simp at h
  have e : (win1_11.blk t).view.emb (ix2 i 0) = ix2 (rowAt t i) 0 := emb_11 t i
  rw [e, iblk_2, iblk_3, iblk_4, iblk_5, iblk_6, iblk_7, iblk_8, iblk_9, iblk_10] at h
  refine h.trans ((outBlk_eq _ _ _ _ _ _ _ _ _ _ _ i).trans ?_)
  exact net_row (funext fun k => iblk_0 V c t i k) (funext fun k => iblk_1 V c t i k) _ _ _ _ _ _ _ _ _

theorem result_eq (b : Fin 4096) : (Vout V Rc c (Proc.devRef .tc main_v19) : Vec Ideal S4096x1 .f32) (ix2 b 0) = netOf V c b := by
  have hb := b.isLt
  have e : b = rowAt ⟨b.val / 512, show b.val / 512 < 8 by omega⟩ ⟨b.val % 512, Nat.mod_lt _ (by norm_num)⟩ :=
    Fin.ext (by show b.val = 512 * (b.val / 512) + b.val % 512; omega)
  rw [e]; exact result_at V Rc c _ _

end

variable (m : (ℓ : Loc nD τ sig) → Buf (Elt Ideal) ℓ) (d : Dev nD)

/-- Before the second host operations an argument holds what it held at the launch. -/
theorem VG_arg (r : Ref sig .tc) (hA : r ∉ [main_v0, main_v1, main_c, main_v2, main_v3, main_v4, main_v5, main_v6, main_v7]) (hG : r ≠ main_v8) :
    VG m d (Proc.devRef .tc r) = m ((d.tc : Thread nD τ).loc r) := by
  unfold VG
  rw [Function.update_of_ne (fun e => hG (Proc.devRef_injective _ e))]
  unfold VA
  rw [StableHlo.after_unwritten [main_v0, main_v1, main_c, main_v2, main_v3, main_v4, main_v5, main_v6, main_v7] rfl hA]
  rfl

/-! The arrays the pipelined call finds, as functions of the arguments. -/

theorem v10_eq : ent (VB m d (Proc.devRef .tc main_v10) : Vec Ideal S3328x1024 .bf16) = ent (m ((d.tc : Thread nD τ).loc main_arg3) : Vec Ideal S3328x1024 .f32) := by
  unfold VB opsB
  after_reads_simp
  rw [VG_arg m d main_arg3 (by decide) (by decide)]
  funext i j
  unfold ent
  pointwise

theorem v12_eq : ent (VB m d (Proc.devRef .tc main_v12) : Vec Ideal S1024x512 .bf16) = ent (m ((d.tc : Thread nD τ).loc main_arg5) : Vec Ideal S1024x512 .f32) := by
  unfold VB opsB
  after_reads_simp
  rw [VG_arg m d main_arg5 (by decide) (by decide)]
  funext i j
  unfold ent
  pointwise

theorem v14_eq : ent (VB m d (Proc.devRef .tc main_v14) : Vec Ideal S512x256 .bf16) = ent (m ((d.tc : Thread nD τ).loc main_arg7) : Vec Ideal S512x256 .f32) := by
  unfold VB opsB
  after_reads_simp
  rw [VG_arg m d main_arg7 (by decide) (by decide)]
  funext i j
  unfold ent
  pointwise

theorem v11_eq : ent (VB m d (Proc.devRef .tc main_v11) : Vec Ideal S1x1024 .f32) 0 = fun k => (m ((d.tc : Thread nD τ).loc main_arg4) : Vec Ideal S1024 .f32) (ix1 k) := by
  have e : VB m d (Proc.devRef .tc main_v11) = (shapeCast S1x1024 (m ((d.tc : Thread nD τ).loc main_arg4) : Vec Ideal S1024 .f32) shapeCasts_S1024_S1x1024) := by
    unfold VB opsB
    after_reads_simp
    rw [VG_arg m d main_arg4 (by decide) (by decide)]
    rfl
  rw [e]
  funext k
  unfold ent
  pointwise

theorem v13_eq : ent (VB m d (Proc.devRef .tc main_v13) : Vec Ideal S1x512 .f32) 0 = fun k => (m ((d.tc : Thread nD τ).loc main_arg6) : Vec Ideal S512 .f32) (ix1 k) := by
  have e : VB m d (Proc.devRef .tc main_v13) = (shapeCast S1x512 (m ((d.tc : Thread nD τ).loc main_arg6) : Vec Ideal S512 .f32) shapeCasts_S512_S1x512) := by
    unfold VB opsB
    after_reads_simp
    rw [VG_arg m d main_arg6 (by decide) (by decide)]
    rfl
  rw [e]
  funext k
  unfold ent
  pointwise

theorem v15_eq : ent (VB m d (Proc.devRef .tc main_v15) : Vec Ideal S1x256 .f32) 0 = fun k => (m ((d.tc : Thread nD τ).loc main_arg8) : Vec Ideal S256 .f32) (ix1 k) := by
  have e : VB m d (Proc.devRef .tc main_v15) = (shapeCast S1x256 (m ((d.tc : Thread nD τ).loc main_arg8) : Vec Ideal S256 .f32) shapeCasts_S256_S1x256) := by
    unfold VB opsB
    after_reads_simp
    rw [VG_arg m d main_arg8 (by decide) (by decide)]
    rfl
  rw [e]
  funext k
  unfold ent
  pointwise

theorem v16_eq : (fun k => ent (VB m d (Proc.devRef .tc main_v16) : Vec Ideal S1024x1 .f32) k 0)
    = fun k : Fin 1024 => ent (m ((d.tc : Thread nD τ).loc main_arg9) : Vec Ideal S1280x1 .f32) (Fin.castAdd 256 k) 0 := by
  unfold VB opsB
  after_reads_simp
  rw [VG_arg m d main_arg9 (by decide) (by decide)]
  funext k
  unfold ent
  pointwise
  rfl

theorem v17_eq : (fun k => ent (VB m d (Proc.devRef .tc main_v17) : Vec Ideal S256x1 .f32) k 0)
    = fun k : Fin 256 => ent (m ((d.tc : Thread nD τ).loc main_arg9) : Vec Ideal S1280x1 .f32) (Fin.natAdd 1024 k) 0 := by
  unfold VB opsB
  after_reads_simp
  rw [VG_arg m d main_arg9 (by decide) (by decide)]
  funext k
  unfold ent
  pointwise
  rfl

theorem v18_eq : ent (VB m d (Proc.devRef .tc main_v18) : Vec Ideal S1x1 .f32) 0 0 = (m ((d.tc : Thread nD τ).loc main_arg10) : Vec Ideal S1 .f32) (ix1 0) := by
  have e : VB m d (Proc.devRef .tc main_v18) = (shapeCast S1x1 (m ((d.tc : Thread nD τ).loc main_arg10) : Vec Ideal S1 .f32) shapeCasts_S1_S1x1) := by
    unfold VB opsB
    after_reads_simp
    rw [VG_arg m d main_arg10 (by decide) (by decide)]
    rfl
  rw [e]
  unfold ent
  pointwise

/-- The kernel's result on device `d`, entry by entry, from the arguments. -/
theorem kernel_value (h : Small m) (Rc : Set (SemLoc sig × HIx 1)) (b : Fin 4096) :
    (Vout (VB m) Rc d (Proc.devRef .tc main_v19) : Vec Ideal S4096x1 .f32) (ix2 b 0)
      = net (ent (m ((d.tc : Thread nD τ).loc main_arg0) : Vec Ideal S4096x1024 .f32))
          (looked (fun f r k => (m ((d.tc : Thread nD τ).loc main_arg2) : Vec Ideal S26x1000x128 .f32) (ix3 f r k)) (fun b f => idx m d (ix2 b f)))
          (ent (m ((d.tc : Thread nD τ).loc main_arg3) : Vec Ideal S3328x1024 .f32)) (fun k => (m ((d.tc : Thread nD τ).loc main_arg4) : Vec Ideal S1024 .f32) (ix1 k))
          (ent (m ((d.tc : Thread nD τ).loc main_arg5) : Vec Ideal S1024x512 .f32)) (fun k => (m ((d.tc : Thread nD τ).loc main_arg6) : Vec Ideal S512 .f32) (ix1 k))
          (ent (m ((d.tc : Thread nD τ).loc main_arg7) : Vec Ideal S512x256 .f32)) (fun k => (m ((d.tc : Thread nD τ).loc main_arg8) : Vec Ideal S256 .f32) (ix1 k))
          (fun k => ent (m ((d.tc : Thread nD τ).loc main_arg9) : Vec Ideal S1280x1 .f32) (Fin.castAdd 256 k) 0)
          (fun k => ent (m ((d.tc : Thread nD τ).loc main_arg9) : Vec Ideal S1280x1 .f32) (Fin.natAdd 1024 k) 0)
          ((m ((d.tc : Thread nD τ).loc main_arg10) : Vec Ideal S1 .f32) (ix1 0)) b := by
  rw [result_eq]
  unfold netOf
  rw [v10_eq, v11_eq, v12_eq, v13_eq, v14_eq, v15_eq, v16_eq, v17_eq, v18_eq, VB_arg m d main_arg0 (by decide) (by decide) (by decide)]
  refine congrArg (fun e => net _ e _ _ _ _ _ _ _ _ _ b) ?_
  funext b c
  simp only [ent, ix2_eq_valueIdx, ix3_eq_valueIdx]
  exact v9_at m d h b c

end Cert.KernelIdeal.Pf

end
-- ==== Proof.RefValue.lean ====
/- The reference's value at the exact instance: row by row, the network of its arguments. -/
module

public import proofs.«01_k».proof.Proof.Gen.ReferenceIdeal.Run
public import proofs.«01_k».proof.Proof.Layers
public import Idealize.ShloMosaic.Lib.Pointwise

@[expose] public section

noncomputable section

namespace Cert.ReferenceIdeal.Pf

open Cert.ReferenceIdeal Cert.ReferenceIdeal.Gen Cert.Pf
open Idealize.ShloMosaic Idealize.ShloMosaic.TcCoe
open Idealize.SL.Sem

/-! A layer's host operations at an entry. -/

theorem layer1 (x : FVec Ideal S4096x3328 .f32) (w : FVec Ideal S3328x1024 .f32) (b : FVec Ideal S1024 .f32) :
    ent (maximumf (addf (Host.dotGeneral dot_S4096x3328_S3328x1024_S4096x1024_1_0_0_1_n_n none x w : FVec Ideal S4096x1024 .f32)
      (broadcastInDim S4096x1024 ![0, 1] bcast_S1x1024_S4096x1024_0_1 (broadcastInDim S1x1024 ![1] bcast_S1024_S1x1024_1 b)))
      (broadcastInDim S4096x1024 ![] bcast_S_S4096x1024 (constant (F := Ideal) S_ .f32 0x00000000#32)))
      = lay (ent x) (ent w) (fun k => b (ix1 k)) := by
  funext i k
  unfold lay ent
  pointwise

theorem layer2 (x : FVec Ideal S4096x1024 .f32) (w : FVec Ideal S1024x512 .f32) (b : FVec Ideal S512 .f32) :
    ent (maximumf (addf (Host.dotGeneral dot_S4096x1024_S1024x512_S4096x512_1_0_0_1_n_n none x w : FVec Ideal S4096x512 .f32)
      (broadcastInDim S4096x512 ![0, 1] bcast_S1x512_S4096x512_0_1 (broadcastInDim S1x512 ![1] bcast_S512_S1x512_1 b)))
      (broadcastInDim S4096x512 ![] bcast_S_S4096x512 (constant (F := Ideal) S_ .f32 0x00000000#32)))
      = lay (ent x) (ent w) (fun k => b (ix1 k)) := by
  funext i k
  unfold lay ent
  pointwise

theorem layer3 (x : FVec Ideal S4096x512 .f32) (w : FVec Ideal S512x256 .f32) (b : FVec Ideal S256 .f32) :
    ent (maximumf (addf (Host.dotGeneral dot_S4096x512_S512x256_S4096x256_1_0_0_1_n_n none x w : FVec Ideal S4096x256 .f32)
      (broadcastInDim S4096x256 ![0, 1] bcast_S1x256_S4096x256_0_1 (broadcastInDim S1x256 ![1] bcast_S256_S1x256_1 b)))
      (broadcastInDim S4096x256 ![] bcast_S_S4096x256 (constant (F := Ideal) S_ .f32 0x00000000#32)))
      = lay (ent x) (ent w) (fun k => b (ix1 k)) := by
  funext i k
  unfold lay ent
  pointwise

/-- The last layer: the wide features and the deep layers' result side by side, times the weights, plus the bias. -/
theorem last (x : FVec Ideal S4096x1024 .f32) (h : FVec Ideal S4096x256 .f32) (w : FVec Ideal S1280x1 .f32) (b : FVec Ideal S1 .f32) (i : Fin 4096) :
    (addf (Host.dotGeneral dot_S4096x1280_S1280x1_S4096x1_1_0_0_1_n_n none
        (concatenate S4096x1280 1 [⟨S4096x1024, x⟩, ⟨S4096x256, h⟩] concatenates_S4096x1024_S4096x256_S4096x1280_d1) w : FVec Ideal S4096x1 .f32)
      (broadcastInDim S4096x1 ![0, 1] bcast_S1x1_S4096x1_0_1 (broadcastInDim S1x1 ![1] bcast_S1_S1x1_1 b))) (ix2 i 0)
      = ((∑ c : Fin 1024, ent x i c * ent w (Fin.castAdd 256 c) 0) + ∑ c : Fin 256, ent h i c * ent w (Fin.natAdd 1024 c) 0) + b (ix1 0) := by
  pointwise
  rfl

/-- The index pairs: the feature, and the entry's index of it. -/
def pairs (I : IVec S4096x26 32) : IVec S4096x26x2 32 :=
  concatenate S4096x26x2 2 [⟨S4096x26x1, (broadcastInDim S4096x26x1 ![0, 1] bcast_S4096x26_S4096x26x1_0_1 (broadcastInDim S4096x26 ![0, 1] bcast_S1x26_S4096x26_0_1 (select (cmpi .slt (broadcastInDim S1x26 ![1] bcast_S26_S1x26_1 (iotaInDim S26 32 0)) (broadcastInDim S1x26 ![] bcast_S_S1x26 (constantI S_ 32 0#32))) (addi (broadcastInDim S1x26 ![1] bcast_S26_S1x26_1 (iotaInDim S26 32 0)) (broadcastInDim S1x26 ![] bcast_S_S1x26 (constantI S_ 32 26#32))) (broadcastInDim S1x26 ![1] bcast_S26_S1x26_1 (iotaInDim S26 32 0)))))⟩, ⟨S4096x26x1, (broadcastInDim S4096x26x1 ![0, 1] bcast_S4096x26_S4096x26x1_0_1 (select (cmpi .slt I (broadcastInDim S4096x26 ![] bcast_S_S4096x26 (constantI S_ 32 0#32))) (addi I (broadcastInDim S4096x26 ![] bcast_S_S4096x26 (constantI S_ 32 1000#32))) I))⟩] concatenates_S4096x26x1_S4096x26x1_S4096x26x2_d2

/-- A word below 2³¹ is not negative: the wrap of negative indices leaves it. -/
theorem not_neg (v w : BitVec 32) (h : v.toNat < 2 ^ 31) : Scalar.select (IntOp.cmpi .slt v 0#32) w v = v := by
  have e : IntOp.cmpi .slt v 0#32 = 0#1 := by
    have : v.slt 0#32 = false := by
      rw [BitVec.slt_eq_decide, decide_eq_false_iff_not, BitVec.toInt_eq_toNat_cond]
      simp only [BitVec.toNat_ofNat, BitVec.toInt_zero]
      omega
    simp only [IntOp.cmpi, this]; decide
  rw [e]; rfl

theorem pair_feature (I : IVec S4096x26 32) (b : Fin 4096) (f : Fin 26) : pairs I (ix3 b f 0) = BitVec.ofNat 32 f.val := by
  unfold pairs
  pointwise
  refine not_neg _ _ ?_
  rw [BitVec.toNat_ofNat]; omega

theorem pair_index (I : IVec S4096x26 32) (b : Fin 4096) (f : Fin 26) (h : (I (ix2 b f)).toNat < 1000) : pairs I (ix3 b f 1) = I (ix2 b f) := by
  unfold pairs
  pointwise
  exact not_neg _ _ (by omega)

/-- The gather's dimension numbers. -/
abbrev GD : GatherDims S26x1000x128 S4096x26x2 S4096x26x128 := gather_S26x1000x128_S4096x26x2_S4096x26x128_2_01_n_n_01_2_11128

theorem pair_idx (b : Fin 4096) (f : Fin 26) (k : Fin 128) (c : Fin 2) (hc : c.val < GD.startIndexMap.length) :
    GD.siIdx (ix3 b f k) ⟨c.val, hc⟩ = ix3 b f c := by
  funext x; refine Fin.ext ?_
  match x with
  | ⟨0, _⟩ => rfl
  | ⟨1, _⟩ => rfl
  | ⟨2, _⟩ => rfl

theorem start_0 (P : IVec S4096x26x2 32) (b : Fin 4096) (f : Fin 26) (k : Fin 128) :
    GD.start (ix3 b f k) P (0 : Fin 3) = min (P (ix3 b f 0)).toInt.toNat 25 := by
  unfold GatherDims.start
  rw [dif_pos (show (0 : Fin 3) ∈ GD.startIndexMap from (by decide : (0 : Fin 3) ∈ ([0, 1] : List (Fin 3))))]
  exact congrArg (fun y => min (P y).toInt.toNat 25) (pair_idx b f k 0 (by decide))

theorem start_1 (P : IVec S4096x26x2 32) (b : Fin 4096) (f : Fin 26) (k : Fin 128) :
    GD.start (ix3 b f k) P (1 : Fin 3) = min (P (ix3 b f 1)).toInt.toNat 999 := by
  unfold GatherDims.start
  rw [dif_pos (show (1 : Fin 3) ∈ GD.startIndexMap from (by decide : (1 : Fin 3) ∈ ([0, 1] : List (Fin 3))))]
  exact congrArg (fun y => min (P y).toInt.toNat 999) (pair_idx b f k 1 (by decide))

theorem start_2 (P : IVec S4096x26x2 32) (b : Fin 4096) (f : Fin 26) (k : Fin 128) : GD.start (ix3 b f k) P (2 : Fin 3) = 0 := by
  unfold GatherDims.start
  rw [dif_neg (show (2 : Fin 3) ∉ GD.startIndexMap from (by decide : (2 : Fin 3) ∉ ([0, 1] : List (Fin 3))))]

theorem off_collapsed (b : Fin 4096) (f : Fin 26) (k : Fin 128) (a : Fin 3) (h : a ∈ ([0, 1] : List (Fin 3))) : GD.offCoord (ix3 b f k) a = 0 :=
  GatherDims.offCoord_eq_zero _ _ _ fun hm => ((GatherDims.mem_sKept _ _).mp hm).1 h

theorem off_2 (b : Fin 4096) (f : Fin 26) (k : Fin 128) : GD.offCoord (ix3 b f k) (2 : Fin 3) = k.val := rfl

/-- The gather at an entry: the table at the pair's feature and row, each clamped into the table. -/
theorem gather_at (T : FVec Ideal S26x1000x128 .f32) (P : IVec S4096x26x2 32) (b : Fin 4096) (f : Fin 26) (k : Fin 128) :
    Host.gather GD T P (ix3 b f k)
      = T (ix3 ⟨min (P (ix3 b f 0)).toInt.toNat 25, by omega⟩ ⟨min (P (ix3 b f 1)).toInt.toNat 999, by omega⟩ k) := by
  unfold Host.gather
  refine congrArg T ?_
  funext a
  refine Fin.ext ?_
  show GD.start (ix3 b f k) P a + GD.batchCoord (ix3 b f k) a + GD.offCoord (ix3 b f k) a = _
  rw [GatherDims.batchCoord_eq_zero _ _ _ (show a ∉ ([] : List (Fin 3)) from List.not_mem_nil), Nat.add_zero]
  match a with
  | ⟨0, _⟩ => exact (congrArg₂ (· + ·) (start_0 P b f k) (off_collapsed b f k 0 (by decide))).trans (Nat.add_zero _)
  | ⟨1, _⟩ => exact (congrArg₂ (· + ·) (start_1 P b f k) (off_collapsed b f k 1 (by decide))).trans (Nat.add_zero _)
  | ⟨2, _⟩ => exact (congrArg₂ (· + ·) (start_2 P b f k) (off_2 b f k)).trans (Nat.zero_add _)

/-- A word below 2³¹ reads the same signed. -/
theorem signed (v : BitVec 32) (h : v.toNat < 2 ^ 31) : v.toInt.toNat = v.toNat := by
  rw [BitVec.toInt_eq_toNat_cond]
  omega

/-- The embeddings side by side. -/
theorem looked_at (T : FVec Ideal S26x1000x128 .f32) (I : IVec S4096x26 32) (h : ∀ j, (I j).toNat < 1000) :
    ent (shapeCast S4096x3328 (Host.gather gather_S26x1000x128_S4096x26x2_S4096x26x128_2_01_n_n_01_2_11128 T (pairs I)) shapeCasts_S4096x26x128_S4096x3328)
      = looked (fun f r k => T (ix3 f r k)) (fun b f => I (ix2 b f)) := by
  funext b c
  unfold ent looked
  pointwise
  have hc := c.isLt
  have hx := h (ix2 b (⟨c.val / 128, by omega⟩ : Fin 26))
  refine (gather_at T (pairs I) b ⟨c.val / 128, by omega⟩ ⟨c.val % 128, by omega⟩).trans (congrArg T ?_)
  congr 1
  · refine Fin.ext ?_
    show min _ 25 = c.val / 128
    rw [pair_feature, signed _ (by rw [BitVec.toNat_ofNat]; show c.val / 128 % _ < _; omega), BitVec.toNat_ofNat]
    show min (c.val / 128 % 2 ^ 32) 25 = _
    omega
  · refine Fin.ext ?_
    show min _ 999 = _ % 1000
    rw [pair_index _ _ _ hx, signed _ (by omega)]
    omega

/-- The result array's composed term of the arguments. -/
def result (x0 : FVec Ideal S4096x1024 .f32) (x1 : IVec S4096x26 32) (x2 : FVec Ideal S26x1000x128 .f32) (x3 : FVec Ideal S3328x1024 .f32) (x4 : FVec Ideal S1024 .f32)
    (x5 : FVec Ideal S1024x512 .f32) (x6 : FVec Ideal S512 .f32) (x7 : FVec Ideal S512x256 .f32) (x8 : FVec Ideal S256 .f32) (x9 : FVec Ideal S1280x1 .f32) (x10 : FVec Ideal S1 .f32) :
    FVec Ideal S4096x1 .f32 :=
  addf (Host.dotGeneral dot_S4096x1280_S1280x1_S4096x1_1_0_0_1_n_n none (concatenate S4096x1280 1 [⟨S4096x1024, x0⟩, ⟨S4096x256,
    (maximumf (addf (Host.dotGeneral dot_S4096x512_S512x256_S4096x256_1_0_0_1_n_n none
    (maximumf (addf (Host.dotGeneral dot_S4096x1024_S1024x512_S4096x512_1_0_0_1_n_n none
    (maximumf (addf (Host.dotGeneral dot_S4096x3328_S3328x1024_S4096x1024_1_0_0_1_n_n none
      (shapeCast S4096x3328 (Host.gather gather_S26x1000x128_S4096x26x2_S4096x26x128_2_01_n_n_01_2_11128 x2 (pairs x1)) shapeCasts_S4096x26x128_S4096x3328) x3)
      (broadcastInDim S4096x1024 ![0, 1] bcast_S1x1024_S4096x1024_0_1 (broadcastInDim S1x1024 ![1] bcast_S1024_S1x1024_1 x4))) (broadcastInDim S4096x1024 ![] bcast_S_S4096x1024 (constant S_ .f32 0x00000000#32))) x5)
      (broadcastInDim S4096x512 ![0, 1] bcast_S1x512_S4096x512_0_1 (broadcastInDim S1x512 ![1] bcast_S512_S1x512_1 x6))) (broadcastInDim S4096x512 ![] bcast_S_S4096x512 (constant S_ .f32 0x00000000#32))) x7)
      (broadcastInDim S4096x256 ![0, 1] bcast_S1x256_S4096x256_0_1 (broadcastInDim S1x256 ![1] bcast_S256_S1x256_1 x8))) (broadcastInDim S4096x256 ![] bcast_S_S4096x256 (constant S_ .f32 0x00000000#32)))⟩]
      concatenates_S4096x1024_S4096x256_S4096x1280_d1) x9)
    (broadcastInDim S4096x1 ![0, 1] bcast_S1x1_S4096x1_0_1 (broadcastInDim S1x1 ![1] bcast_S1_S1x1_1 x10))

/-- The reference's result, entry by entry, from the arguments, for indices in range. -/
theorem result_at (x0 : FVec Ideal S4096x1024 .f32) (x1 : IVec S4096x26 32) (x2 : FVec Ideal S26x1000x128 .f32) (x3 : FVec Ideal S3328x1024 .f32) (x4 : FVec Ideal S1024 .f32)
    (x5 : FVec Ideal S1024x512 .f32) (x6 : FVec Ideal S512 .f32) (x7 : FVec Ideal S512x256 .f32) (x8 : FVec Ideal S256 .f32) (x9 : FVec Ideal S1280x1 .f32) (x10 : FVec Ideal S1 .f32)
    (h : ∀ j, (x1 j).toNat < 1000) (b : Fin 4096) :
    result x0 x1 x2 x3 x4 x5 x6 x7 x8 x9 x10 (ix2 b 0)
      = net (ent x0) (looked (fun f r k => x2 (ix3 f r k)) (fun b f => x1 (ix2 b f))) (ent x3) (fun k => x4 (ix1 k)) (ent x5) (fun k => x6 (ix1 k))
          (ent x7) (fun k => x8 (ix1 k)) (fun k => ent x9 (Fin.castAdd 256 k) 0) (fun k => ent x9 (Fin.natAdd 1024 k) 0) (x10 (ix1 0)) b := by
  unfold result net
  rw [last, layer3, layer2, layer1, looked_at x2 x1 h]

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Cert.ReferenceIdeal.Value.run m ρ

end Cert.ReferenceIdeal.Pf

end
-- ==== Proof.Range.lean ====
/- The precondition read at one index: all ones means each index lies in `[0, 1000)`. -/
module

public import proofs.«01_k».proof.Proof.Gen.Pre_in_range
public import Mathlib.Data.BitVec

@[expose] public section

noncomputable section

namespace Cert.Pf

open Idealize.ShloMosaic

theorem and_bits (p q : Bool) : IntOp.andi (BitVec.ofBool p) (BitVec.ofBool q) = BitVec.ofBool (p && q) := by
  cases p <;> cases q <;> decide
theorem bit_one (p : Bool) : (BitVec.ofBool p = 1#1) ↔ p = true := by cases p <;> decide

/-- A word the two comparisons accept is below 1000. -/
theorem word_small (v : BitVec 32) (e : IntOp.andi (IntOp.cmpi .sge v 0#32) (IntOp.cmpi .slt v 1000#32) = 1#1) : v.toNat < 1000 := by
  simp only [IntOp.cmpi, and_bits, bit_one, Bool.and_eq_true, BitVec.sle_eq_decide, BitVec.slt_eq_decide, decide_eq_true_eq,
    BitVec.toInt_eq_toNat_cond, BitVec.toNat_ofNat, Nat.reducePow, Nat.reduceMod] at e
  omega

/-- An index array the precondition accepts has every entry below 1000. -/
theorem small_of_pre {F : FTy → Type} [FloatOps F] (x0 : FVec F Pre_in_range.S4096x1024 .f32) (x1 : IVec Pre_in_range.S4096x26 32)
    (x2 : FVec F Pre_in_range.S26x1000x128 .f32) (x3 : FVec F Pre_in_range.S3328x1024 .f32) (x4 : FVec F Pre_in_range.S1024 .f32)
    (x5 : FVec F Pre_in_range.S1024x512 .f32) (x6 : FVec F Pre_in_range.S512 .f32) (x7 : FVec F Pre_in_range.S512x256 .f32)
    (x8 : FVec F Pre_in_range.S256 .f32) (x9 : FVec F Pre_in_range.S1280x1 .f32) (x10 : FVec F Pre_in_range.S1 .f32)
    (h : Pre_in_range.fn x0 x1 x2 x3 x4 x5 x6 x7 x8 x9 x10 = fun _ => 1#1) (j : Pre_in_range.S4096x26.Idx) : (x1 j).toNat < 1000 := by
  have e := congrFun h j
  simp only [Pre_in_range.fn, andi, cmpi, broadcastInDim, constantI] at e
  exact word_small _ e

end Cert.Pf

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Kernel.Frame
public import proofs.«01_k».proof.Proof.KernelIdeal.Result
public import proofs.«01_k».proof.Proof.RefValue
public import proofs.«01_k».proof.Proof.Range

@[expose] public section

noncomputable section

namespace Cert.Proof

open Idealize.ShloMosaic Idealize.ShloMosaic.TcCoe Idealize.SL.Sem

/-- The precondition of the kernel as printed bounds its indices. -/
theorem small_p {m : (ℓ : Loc Cert.Kernel.nD Cert.Kernel.τ Cert.Kernel.sig) → Buf (Elt Bits) ℓ} (h : Cert.Pre_Kernel m) : Cert.Kernel.Pf.Small m :=
  fun d j => Cert.Pf.small_of_pre _ _ _ _ _ _ _ _ _ _ _ (h d) j

/-- The precondition of the kernel's exact reading bounds its indices. -/
theorem small_i {m : (ℓ : Loc Cert.KernelIdeal.nD Cert.KernelIdeal.τ Cert.KernelIdeal.sig) → Buf (Elt Ideal) ℓ} (h : Cert.Pre_KernelIdeal m) : Cert.KernelIdeal.Pf.Small m :=
  fun d j => Cert.Pf.small_of_pre _ _ _ _ _ _ _ _ _ _ _ (h d) j

/-- The kernel as printed runs, its arguments unchanged and every semaphore back at zero. -/
theorem frame_p : Cert.quiescent_Kernel := fun m g h => Cert.Kernel.Pf.frame m g (small_p h)

/-- So does its exact reading. -/
theorem frame_i : Cert.quiescent_KernelIdeal := fun m g h => Cert.KernelIdeal.Pf.frame m g (small_i h)

/-- The reference runs, its arguments unchanged; it has no semaphore. -/
theorem frame_r : Cert.quiescent_ReferenceIdeal := fun m g _ =>
  (θ_run Cert.ReferenceIdeal.defs _ _).mono (fun r h => ⟨fun c => (h c).2, sem_eq_zero_of_no_sems (by decide) r.2⟩) (Cert.ReferenceIdeal.Pf.run m g)

/-- The same under the precondition. -/
theorem frame_r_pre : Cert.quiescent_ReferenceIdeal_pre_in_range := fun m g _ => frame_r m g trivial

/-- The two programs' results agree, entry by entry: each is the network of the arguments. -/
theorem algebraic : Cert.algebraic_KernelIdeal_ReferenceIdeal := by
  intro m g m' g' hpre hagree
  have hs := small_i hpre
  refine ⟨fun c => Cert.ReferenceIdeal.Pf.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r hr c => ⟨?_, Cert.KernelIdeal.Pf.kept m hr c⟩)
      (Cert.KernelIdeal.Pf.run_main m g (Cert.KernelIdeal.Pf.inTable m hs))
    obtain ⟨Rc, hv⟩ := hr.1 c
    refine (hv Cert.KernelIdeal.main_v19 rfl).trans ?_
    funext j
    obtain ⟨b, z, rfl⟩ : ∃ (b : Fin 4096) (z : Fin 1), j = ix2 b z := ⟨j 0, j 1, eq_ix2 j⟩
    obtain rfl : z = 0 := Subsingleton.elim _ _
    refine (Cert.KernelIdeal.Pf.kernel_value m c hs Rc b).trans ?_
    refine Eq.trans ?_ (Cert.ReferenceIdeal.Pf.result_at _ _ _ _ _ _ _ _ _ _ _ (fun j => hs c j) b).symm
    rfl
  · refine (θ_run Cert.ReferenceIdeal.defs _ _).mono (fun r hr c => ⟨(hr c).1.trans ?_, (hr c).2⟩) (Cert.ReferenceIdeal.Pf.run m' g')
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_in_range.Gen.facts,
  frame_p, frame_i, frame_r, frame_r_pre, trivial, algebraic⟩

end Cert.Proof

end
